-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x8192x1024 : Shape := ⟨3, ![2, 8192, 1024]⟩
abbrev S1x1024 : Shape := ⟨2, ![1, 1024]⟩
abbrev S1x1024x8192 : Shape := ⟨3, ![1, 1024, 8192]⟩
abbrev S1x4x1024 : Shape := ⟨3, ![1, 4, 1024]⟩
abbrev S1x8x128x128 : Shape := ⟨4, ![1, 8, 128, 128]⟩
abbrev S2x1024 : Shape := ⟨2, ![2, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x8192 : Shape := ⟨2, ![1024, 8192]⟩
abbrev S4x1024 : Shape := ⟨2, ![4, 1024]⟩
abbrev S8x128x128 : Shape := ⟨3, ![8, 128, 128]⟩
abbrev S1024x1024 : Shape := ⟨2, ![1024, 1024]⟩
abbrev S1024x5632 : Shape := ⟨2, ![1024, 5632]⟩
abbrev S2816x1024 : Shape := ⟨2, ![2816, 1024]⟩
abbrev S1x512x1024 : Shape := ⟨3, ![1, 512, 1024]⟩
abbrev S64x5632 : Shape := ⟨2, ![64, 5632]⟩
abbrev S176x1024 : Shape := ⟨2, ![176, 1024]⟩
abbrev S512x1024 : Shape := ⟨2, ![512, 1024]⟩
abbrev S2x512x256 : Shape := ⟨3, ![2, 512, 256]⟩
abbrev S2x520x256 : Shape := ⟨3, ![2, 520, 256]⟩
abbrev S8x1024 : Shape := ⟨2, ![8, 1024]⟩
abbrev S2x512x128 : Shape := ⟨3, ![2, 512, 128]⟩
abbrev S2x64x128 : Shape := ⟨3, ![2, 64, 128]⟩
abbrev S512 : Shape := ⟨1, ![512]⟩
abbrev S512x1 : Shape := ⟨2, ![512, 1]⟩
abbrev S128x128 : Shape := ⟨2, ![128, 128]⟩
abbrev S1024x256 : Shape := ⟨2, ![1024, 256]⟩
abbrev S512x256 : Shape := ⟨2, ![512, 256]⟩
abbrev S1x256 : Shape := ⟨2, ![1, 256]⟩
abbrev S1x512x256 : Shape := ⟨3, ![1, 512, 256]⟩
abbrev S64x8x256 : Shape := ⟨3, ![64, 8, 256]⟩
abbrev S4x256 : Shape := ⟨2, ![4, 256]⟩
abbrev S8x256 : Shape := ⟨2, ![8, 256]⟩
abbrev S1x520x256 : Shape := ⟨3, ![1, 520, 256]⟩
abbrev S520x256 : Shape := ⟨2, ![520, 256]⟩
abbrev S1x128x256 : Shape := ⟨3, ![1, 128, 256]⟩
abbrev S128x256 : Shape := ⟨2, ![128, 256]⟩
abbrev S32x256 : Shape := ⟨2, ![32, 256]⟩
abbrev S96x256 : Shape := ⟨2, ![96, 256]⟩
abbrev S64x256 : Shape := ⟨2, ![64, 256]⟩
abbrev S32x128 : Shape := ⟨2, ![32, 128]⟩
abbrev S1x128x128 : Shape := ⟨3, ![1, 128, 128]⟩
abbrev S1x128 : Shape := ⟨2, ![1, 128]⟩
abbrev S1x512x128 : Shape := ⟨3, ![1, 512, 128]⟩
abbrev S512x128 : Shape := ⟨2, ![512, 128]⟩
abbrev S64x8x128 : Shape := ⟨3, ![64, 8, 128]⟩
abbrev S64x128 : Shape := ⟨2, ![64, 128]⟩
abbrev S8x8x128 : Shape := ⟨3, ![8, 8, 128]⟩
abbrev S1x8x128 : Shape := ⟨3, ![1, 8, 128]⟩
abbrev S8x128 : Shape := ⟨2, ![8, 128]⟩
abbrev S1x64x128 : Shape := ⟨3, ![1, 64, 128]⟩

abbrev nBuf : Space → Nat
  | .hbm => 50
  | .vmem => 47
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x8192, .f32⟩
  | .hbm, ⟨3, _⟩ => ⟨S1x4x1024, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x8x128x128, .f32⟩
  | .hbm, ⟨8, _⟩ => ⟨S1x1024, .f32⟩
  | .hbm, ⟨9, _⟩ => ⟨S1x1024, .f32⟩
  | .hbm, ⟨10, _⟩ => ⟨S2x1024, .f32⟩
  | .hbm, ⟨11, _⟩ => ⟨S1x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S1x1024, .f32⟩
  | .hbm, ⟨16, _⟩ => ⟨S1x1024x5632, .f32⟩
  | .hbm, ⟨17, _⟩ => ⟨S1x2816x1024, .f32⟩
  | .hbm, ⟨18, _⟩ => ⟨S1024, .f32⟩
  | .hbm, ⟨19, _⟩ => ⟨S1x1024, .f32⟩
  | .hbm, ⟨20, _⟩ => ⟨S1024x8192, .f32⟩
  | .hbm, ⟨21, _⟩ => ⟨S1024x8192, .bf16⟩
  | .hbm, ⟨22, _⟩ => ⟨S4x1024, .f32⟩
  | .hbm, ⟨23, _⟩ => ⟨S1024, .f32⟩
  | .hbm, ⟨24, _⟩ => ⟨S1x1024, .f32⟩
  | .hbm, ⟨25, _⟩ => ⟨S8x128x128, .f32⟩
  | .hbm, ⟨26, _⟩ => ⟨S8x128x128, .bf16⟩
  | .hbm, ⟨27, _⟩ => ⟨S1024, .f32⟩
  | .hbm, ⟨28, _⟩ => ⟨S1x1024, .f32⟩
  | .hbm, ⟨29, _⟩ => ⟨S8x128x128, .f32⟩
  | .hbm, ⟨30, _⟩ => ⟨S8x128x128, .bf16⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024x1024, .f32⟩
  | .hbm, ⟨38, _⟩ => ⟨S1024x1024, .bf16⟩
  | .hbm, ⟨39, _⟩ => ⟨S1024x1024, .f32⟩
  | .hbm, ⟨40, _⟩ => ⟨S1024x1024, .bf16⟩
  | .hbm, ⟨41, _⟩ => ⟨S1024x1024, .f32⟩
  | .hbm, ⟨42, _⟩ => ⟨S1024x1024, .bf16⟩
  | .hbm, ⟨43, _⟩ => ⟨S1024, .f32⟩
  | .hbm, ⟨44, _⟩ => ⟨S1x1024, .f32⟩
  | .hbm, ⟨45, _⟩ => ⟨S1024x5632, .f32⟩
  | .hbm, ⟨46, _⟩ => ⟨S2816x1024, .f32⟩
  | .hbm, ⟨47, _⟩ => ⟨S2x8192x1024, .f32⟩
  | .hbm, ⟨48, _⟩ => ⟨S1024x5632, .bf16⟩
  | .hbm, ⟨49, _⟩ => ⟨S2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x8192, .bf16⟩
  | .local _ .vmem, ⟨4, _⟩ => ⟨S4x1024, .f32⟩
  | .local _ .vmem, ⟨5, _⟩ => ⟨S1x1024, .f32⟩
  | .local _ .vmem, ⟨6, _⟩ => ⟨S8x128x128, .bf16⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S1x1024, .f32⟩
  | .local _ .vmem, ⟨11, _⟩ => ⟨S2x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S64x5632, .f32⟩
  | .local _ .vmem, ⟨18, _⟩ => ⟨S64x5632, .f32⟩
  | .local _ .vmem, ⟨19, _⟩ => ⟨S176x1024, .f32⟩
  | .local _ .vmem, ⟨20, _⟩ => ⟨S176x1024, .f32⟩
  | .local _ .vmem, ⟨21, _⟩ => ⟨S1x512x1024, .f32⟩
  | .local _ .vmem, ⟨22, _⟩ => ⟨S1x512x1024, .f32⟩
  | .local _ .vmem, ⟨23, _⟩ => ⟨S64x5632, .bf16⟩
  | .local _ .vmem, ⟨24, _⟩ => ⟨S64x5632, .bf16⟩
  | .local _ .vmem, ⟨25, _⟩ => ⟨S176x1024, .bf16⟩
  | .local _ .vmem, ⟨26, _⟩ => ⟨S176x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .f32⟩
  | .local _ .vmem, ⟨32, _⟩ => ⟨S512x1024, .f32⟩
  | .local _ .vmem, ⟨33, _⟩ => ⟨S2x512x256, .f32⟩
  | .local _ .vmem, ⟨34, _⟩ => ⟨S2x512x256, .f32⟩
  | .local _ .vmem, ⟨35, _⟩ => ⟨S2x520x256, .f32⟩
  | .local _ .vmem, ⟨36, _⟩ => ⟨S8x1024, .f32⟩
  | .local _ .vmem, ⟨37, _⟩ => ⟨S1x1024, .f32⟩
  | .local _ .vmem, ⟨38, _⟩ => ⟨S8x128x128, .f32⟩
  | .local _ .vmem, ⟨39, _⟩ => ⟨S2x512x128, .f32⟩
  | .local _ .vmem, ⟨40, _⟩ => ⟨S2x512x128, .f32⟩
  | .local _ .vmem, ⟨41, _⟩ => ⟨S2x64x128, .f32⟩
  | .local _ .vmem, ⟨42, _⟩ => ⟨S2x512x256, .f32⟩
  | .local _ .vmem, ⟨43, _⟩ => ⟨S2x512x256, .f32⟩
  | .local _ .vmem, ⟨44, _⟩ => ⟨S2x512x256, .f32⟩
  | .local _ .vmem, ⟨45, _⟩ => ⟨S2x512x256, .bf16⟩
  | .local _ .vmem, ⟨46, _⟩ => ⟨S2x512x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_scratch10 : Ref sig .tc := ⟨.vmem, 37, rfl⟩
abbrev cc0_scratch11 : Ref sig .tc := ⟨.vmem, 38, rfl⟩
abbrev cc0_scratch12 : Ref sig .tc := ⟨.vmem, 39, rfl⟩
abbrev cc0_scratch13 : Ref sig .tc := ⟨.vmem, 40, rfl⟩
abbrev cc0_scratch14 : Ref sig .tc := ⟨.vmem, 41, rfl⟩
abbrev cc0_scratch15 : Ref sig .tc := ⟨.vmem, 42, rfl⟩
abbrev cc0_scratch16 : Ref sig .tc := ⟨.vmem, 43, rfl⟩
abbrev cc0_scratch17 : Ref sig .tc := ⟨.vmem, 44, rfl⟩
abbrev cc0_scratch18 : Ref sig .tc := ⟨.vmem, 45, rfl⟩
abbrev cc0_scratch19 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S64x5632 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S176x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x5632 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S176x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Kernel2.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x512x1024 : Shape := ⟨3, ![1, 512, 1024]⟩
abbrev S512x1024 : Shape := ⟨2, ![512, 1024]⟩
abbrev S512x2816 : Shape := ⟨2, ![512, 2816]⟩
abbrev S4x520x256 : Shape := ⟨3, ![4, 520, 256]⟩
abbrev S8x5632 : Shape := ⟨2, ![8, 5632]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S3x256 : Shape := ⟨2, ![3, 256]⟩
abbrev S1x256 : Shape := ⟨2, ![1, 256]⟩
abbrev S8x256 : Shape := ⟨2, ![8, 256]⟩
abbrev S1x520x256 : Shape := ⟨3, ![1, 520, 256]⟩
abbrev S520x256 : Shape := ⟨2, ![520, 256]⟩
abbrev S256x1024 : Shape := ⟨2, ![256, 1024]⟩

abbrev nBuf : Space → Nat
  | .hbm => 19
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024x5632, .f32⟩
  | .hbm, ⟨10, _⟩ => ⟨S1024x5632, .bf16⟩
  | .hbm, ⟨11, _⟩ => ⟨S3x5632, .f32⟩
  | .hbm, ⟨12, _⟩ => ⟨S5632, .f32⟩
  | .hbm, ⟨13, _⟩ => ⟨S1x5632, .f32⟩
  | .hbm, ⟨14, _⟩ => ⟨S2816x1024, .f32⟩
  | .hbm, ⟨15, _⟩ => ⟨S2816x1024, .bf16⟩
  | .hbm, ⟨16, _⟩ => ⟨S1024, .f32⟩
  | .hbm, ⟨17, _⟩ => ⟨S1x1024, .f32⟩
  | .hbm, ⟨18, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S512x2816, .f32⟩
  | .local _ .vmem, ⟨12, _⟩ => ⟨S512x2816, .f32⟩
  | .local _ .vmem, ⟨13, _⟩ => ⟨S4x520x256, .f32⟩
  | .local _ .vmem, ⟨14, _⟩ => ⟨S8x5632, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S3x5632 : Shape := ⟨2, ![3, 5632]⟩
abbrev S5632 : Shape := ⟨1, ![5632]⟩
abbrev S2x8194x5632 : Shape := ⟨3, ![2, 8194, 5632]⟩
abbrev S1x1x5632 : Shape := ⟨3, ![1, 1, 5632]⟩
abbrev S2x8192x2816 : Shape := ⟨3, ![2, 8192, 2816]⟩
abbrev S2816x1024 : Shape := ⟨2, ![2816, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1024x5632, .f32⟩
  | .hbm, ⟨25, _⟩ => ⟨S2x8192x5632, .f32⟩
  | .hbm, ⟨26, _⟩ => ⟨S3x5632, .f32⟩
  | .hbm, ⟨27, _⟩ => ⟨S5632, .f32⟩
  | .hbm, ⟨28, _⟩ => ⟨S_, .i32⟩
  | .hbm, ⟨29, _⟩ => ⟨S_, .f32⟩
  | .hbm, ⟨30, _⟩ => ⟨S2x8194x5632, .f32⟩
  | .hbm, ⟨31, _⟩ => ⟨S2x8192x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S2x8192x5632, .f32⟩
  | .hbm, ⟨36, _⟩ => ⟨S2x8192x5632, .f32⟩
  | .hbm, ⟨37, _⟩ => ⟨S_, .f32⟩
  | .hbm, ⟨38, _⟩ => ⟨S2x8192x5632, .f32⟩
  | .hbm, ⟨39, _⟩ => ⟨S2x8192x5632, .f32⟩
  | .hbm, ⟨40, _⟩ => ⟨S2x8192x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S2x8192x5632, .f32⟩
  | .hbm, ⟨45, _⟩ => ⟨S2x8192x5632, .f32⟩
  | .hbm, ⟨46, _⟩ => ⟨S2x8192x5632, .f32⟩
  | .hbm, ⟨47, _⟩ => ⟨S2x8192x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S2x8192x5632, .f32⟩
  | .hbm, ⟨52, _⟩ => ⟨S2x8192x5632, .f32⟩
  | .hbm, ⟨53, _⟩ => ⟨S2x8192x5632, .f32⟩
  | .hbm, ⟨54, _⟩ => ⟨S1x1x5632, .f32⟩
  | .hbm, ⟨55, _⟩ => ⟨S2x8192x5632, .f32⟩
  | .hbm, ⟨56, _⟩ => ⟨S2x8192x5632, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S_, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S_, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S_, .f32⟩
  | .hbm, ⟨70, _⟩ => ⟨S2x8192x2816, .f32⟩
  | .hbm, ⟨71, _⟩ => ⟨S2x8192x2816, .f32⟩
  | .hbm, ⟨72, _⟩ => ⟨S_, .f32⟩
  | .hbm, ⟨73, _⟩ => ⟨S2x8192x2816, .f32⟩
  | .hbm, ⟨74, _⟩ => ⟨S2x8192x2816, .f32⟩
  | .hbm, ⟨75, _⟩ => ⟨S2x8192x2816, .f32⟩
  | .hbm, ⟨76, _⟩ => ⟨S2x8192x2816, .f32⟩
  | .hbm, ⟨77, _⟩ => ⟨S2816x1024, .f32⟩
  | .hbm, ⟨78, _⟩ => ⟨S2x8192x1024, .f32⟩
  | .hbm, ⟨79, _⟩ => ⟨S1024, .f32⟩
  | .hbm, ⟨80, _⟩ => ⟨S2x8192x1024, .f32⟩
  | .hbm, ⟨81, _⟩ => ⟨S_, .f32⟩
  | .hbm, ⟨82, _⟩ => ⟨S2x8192, .f32⟩
  | .hbm, ⟨83, _⟩ => ⟨S2x8192x1, .f32⟩
  | .hbm, ⟨84, _⟩ => ⟨S_, .f32⟩
  | .hbm, ⟨85, _⟩ => ⟨S2x8192x1, .f32⟩
  | .hbm, ⟨86, _⟩ => ⟨S2x8192x1, .f32⟩
  | .hbm, ⟨87, _⟩ => ⟨S_, .f32⟩
  | .hbm, ⟨88, _⟩ => ⟨S2x8192x1, .f32⟩
  | .hbm, ⟨89, _⟩ => ⟨S2x8192x1, .f32⟩
  | .hbm, ⟨90, _⟩ => ⟨S2x8192x1, .f32⟩
  | .hbm, ⟨91, _⟩ => ⟨S2x8192x1024, .f32⟩
  | .hbm, ⟨92, _⟩ => ⟨S2x8192x1024, .f32⟩
  | .hbm, ⟨93, _⟩ => ⟨S1x1x1024, .f32⟩
  | .hbm, ⟨94, _⟩ => ⟨S2x8192x1024, .f32⟩
  | .hbm, ⟨95, _⟩ => ⟨S2x8192x1024, .f32⟩
  | .hbm, ⟨96, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x8192 : Shape := ⟨3, ![1, 1024, 8192]⟩
abbrev S1x1024x1024 : Shape := ⟨3, ![1, 1024, 1024]⟩
abbrev S1024 : Shape := ⟨1, ![1024]⟩
abbrev S1024x8192 : Shape := ⟨2, ![1024, 8192]⟩
abbrev S1024x1024 : Shape := ⟨2, ![1024, 1024]⟩
abbrev S1x512x1024 : Shape := ⟨3, ![1, 512, 1024]⟩
abbrev S512x1024 : Shape := ⟨2, ![512, 1024]⟩
abbrev S2x512x256 : Shape := ⟨3, ![2, 512, 256]⟩
abbrev S2x520x256 : Shape := ⟨3, ![2, 520, 256]⟩
abbrev S8x1024 : Shape := ⟨2, ![8, 1024]⟩
abbrev S8x128x128 : Shape := ⟨3, ![8, 128, 128]⟩
abbrev S2x512x128 : Shape := ⟨3, ![2, 512, 128]⟩
abbrev S2x64x128 : Shape := ⟨3, ![2, 64, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩
abbrev S1x512x128 : Shape := ⟨3, ![1, 512, 128]⟩
abbrev S512x128 : Shape := ⟨2, ![512, 128]⟩
abbrev S1x256 : Shape := ⟨2, ![1, 256]⟩

abbrev nBuf : Space → Nat
  | .hbm => 25
  | .vmem => 35
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1x1024, .f32⟩
  | .hbm, ⟨4, _⟩ => ⟨S1x1024x8192, .f32⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024x8192, .f32⟩
  | .hbm, ⟨13, _⟩ => ⟨S1024x8192, .bf16⟩
  | .hbm, ⟨14, _⟩ => ⟨S1024, .f32⟩
  | .hbm, ⟨15, _⟩ => ⟨S1x1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x8192, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S2x512x256, .f32⟩
  | .local _ .vmem, ⟨22, _⟩ => ⟨S2x512x256, .f32⟩
  | .local _ .vmem, ⟨23, _⟩ => ⟨S2x520x256, .f32⟩
  | .local _ .vmem, ⟨24, _⟩ => ⟨S8x1024, .f32⟩
  | .local _ .vmem, ⟨25, _⟩ => ⟨S1x1024, .f32⟩
  | .local _ .vmem, ⟨26, _⟩ => ⟨S8x128x128, .f32⟩
  | .local _ .vmem, ⟨27, _⟩ => ⟨S2x512x128, .f32⟩
  | .local _ .vmem, ⟨28, _⟩ => ⟨S2x512x128, .f32⟩
  | .local _ .vmem, ⟨29, _⟩ => ⟨S2x64x128, .f32⟩
  | .local _ .vmem, ⟨30, _⟩ => ⟨S2x512x256, .f32⟩
  | .local _ .vmem, ⟨31, _⟩ => ⟨S2x512x256, .f32⟩
  | .local _ .vmem, ⟨32, _⟩ => ⟨S2x512x256, .f32⟩
  | .local _ .vmem, ⟨33, _⟩ => ⟨S2x512x256, .bf16⟩
  | .local _ .vmem, ⟨34, _⟩ => ⟨S2x512x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_scratch11 : Ref sig .tc := ⟨.vmem, 26, rfl⟩
abbrev cc0_scratch12 : Ref sig .tc := ⟨.vmem, 27, rfl⟩
abbrev cc0_scratch13 : Ref sig .tc := ⟨.vmem, 28, rfl⟩
abbrev cc0_scratch14 : Ref sig .tc := ⟨.vmem, 29, rfl⟩
abbrev cc0_scratch15 : Ref sig .tc := ⟨.vmem, 30, rfl⟩
abbrev cc0_scratch16 : Ref sig .tc := ⟨.vmem, 31, rfl⟩
abbrev cc0_scratch17 : Ref sig .tc := ⟨.vmem, 32, rfl⟩
abbrev cc0_scratch18 : Ref sig .tc := ⟨.vmem, 33, rfl⟩
abbrev cc0_scratch19 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S2x8192x1024 : Shape := ⟨3, ![2, 8192, 1024]⟩
abbrev S1x1024 : Shape := ⟨2, ![1, 1024]⟩
abbrev S1x1024x8192 : Shape := ⟨3, ![1, 1024, 8192]⟩
abbrev S1x1024x1024 : Shape := ⟨3, ![1, 1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x8192 : Shape := ⟨2, ![1024, 8192]⟩
abbrev S2x8192x8192 : Shape := ⟨3, ![2, 8192, 8192]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S8x128 : Shape := ⟨2, ![8, 128]⟩
abbrev S1x1x8x128 : Shape := ⟨4, ![1, 1, 8, 128]⟩
abbrev S1024x1024 : Shape := ⟨2, ![1024, 1024]⟩

abbrev nBuf : Space → Nat
  | .hbm => 128
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1x1024, .f32⟩
  | .hbm, ⟨4, _⟩ => ⟨S1x1024x8192, .f32⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S1024x8192, .f32⟩
  | .hbm, ⟨28, _⟩ => ⟨S2x8192x8192, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x8x128, .f32⟩
  | .hbm, ⟨56, _⟩ => ⟨S2x8192x8x128, .f32⟩
  | .hbm, ⟨57, _⟩ => ⟨S_, .f32⟩
  | .hbm, ⟨58, _⟩ => ⟨S2x8192x8, .f32⟩
  | .hbm, ⟨59, _⟩ => ⟨S2x8192x8x1, .f32⟩
  | .hbm, ⟨60, _⟩ => ⟨S_, .f32⟩
  | .hbm, ⟨61, _⟩ => ⟨S2x8192x8x1, .f32⟩
  | .hbm, ⟨62, _⟩ => ⟨S2x8192x8x1, .f32⟩
  | .hbm, ⟨63, _⟩ => ⟨S_, .f32⟩
  | .hbm, ⟨64, _⟩ => ⟨S2x8192x8x1, .f32⟩
  | .hbm, ⟨65, _⟩ => ⟨S2x8192x8x1, .f32⟩
  | .hbm, ⟨66, _⟩ => ⟨S2x8192x8x1, .f32⟩
  | .hbm, ⟨67, _⟩ => ⟨S2x8192x8x128, .f32⟩
  | .hbm, ⟨68, _⟩ => ⟨S2x8192x8x128, .f32⟩
  | .hbm, ⟨69, _⟩ => ⟨S1024, .f32⟩
  | .hbm, ⟨70, _⟩ => ⟨S8x128, .f32⟩
  | .hbm, ⟨71, _⟩ => ⟨S1x1x8x128, .f32⟩
  | .hbm, ⟨72, _⟩ => ⟨S2x8192x8x128, .f32⟩
  | .hbm, ⟨73, _⟩ => ⟨S2x8192x8x128, .f32⟩
  | .hbm, ⟨74, _⟩ => ⟨S2x8192x1024, .f32⟩
  | .hbm, ⟨75, _⟩ => ⟨S2x8192x1024, .f32⟩
  | .hbm, ⟨76, _⟩ => ⟨S2x8192x1024, .f32⟩
  | .hbm, ⟨77, _⟩ => ⟨S_, .f32⟩
  | .hbm, ⟨78, _⟩ => ⟨S2x8192x1024, .f32⟩
  | .hbm, ⟨79, _⟩ => ⟨S2x8192x1024, .f32⟩
  | .hbm, ⟨80, _⟩ => ⟨S_, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S1024x1024, .f32⟩
  | .hbm, ⟨86, _⟩ => ⟨S2x8192x1024, .f32⟩
  | .hbm, ⟨87, _⟩ => ⟨S1024x1024, .f32⟩
  | .hbm, ⟨88, _⟩ => ⟨S2x8192x1024, .f32⟩
  | .hbm, ⟨89, _⟩ => ⟨S2x8192x1024, .f32⟩
  | .hbm, ⟨90, _⟩ => ⟨S2x8192x1024, .f32⟩
  | .hbm, ⟨91, _⟩ => ⟨S_, .f32⟩
  | .hbm, ⟨92, _⟩ => ⟨S2x8192x1024, .f32⟩
  | .hbm, ⟨93, _⟩ => ⟨S2x8192x1024, .f32⟩
  | .hbm, ⟨94, _⟩ => ⟨S_, .f32⟩
  | .hbm, ⟨95, _⟩ => ⟨S2x8192x1024, .f32⟩
  | .hbm, ⟨96, _⟩ => ⟨S2x8192x1024, .f32⟩
  | .hbm, ⟨97, _⟩ => ⟨S2x8192x1024, .f32⟩
  | .hbm, ⟨98, _⟩ => ⟨S2x8192x1024, .f32⟩
  | .hbm, ⟨99, _⟩ => ⟨S2x8192x1024, .f32⟩
  | .hbm, ⟨100, _⟩ => ⟨S_, .f32⟩
  | .hbm, ⟨101, _⟩ => ⟨S2x8192x1024, .f32⟩
  | .hbm, ⟨102, _⟩ => ⟨S2x8192x1024, .f32⟩
  | .hbm, ⟨103, _⟩ => ⟨S_, .f32⟩
  | .hbm, ⟨104, _⟩ => ⟨S2x8192x1024, .f32⟩
  | .hbm, ⟨105, _⟩ => ⟨S2x8192x1024, .f32⟩
  | .hbm, ⟨106, _⟩ => ⟨S2x8192x1024, .f32⟩
  | .hbm, ⟨107, _⟩ => ⟨S2x8192x1024, .f32⟩
  | .hbm, ⟨108, _⟩ => ⟨S1024x1024, .f32⟩
  | .hbm, ⟨109, _⟩ => ⟨S2x8192x1024, .f32⟩
  | .hbm, ⟨110, _⟩ => ⟨S1024, .f32⟩
  | .hbm, ⟨111, _⟩ => ⟨S2x8192x1024, .f32⟩
  | .hbm, ⟨112, _⟩ => ⟨S_, .f32⟩
  | .hbm, ⟨113, _⟩ => ⟨S2x8192, .f32⟩
  | .hbm, ⟨114, _⟩ => ⟨S2x8192x1, .f32⟩
  | .hbm, ⟨115, _⟩ => ⟨S_, .f32⟩
  | .hbm, ⟨116, _⟩ => ⟨S2x8192x1, .f32⟩
  | .hbm, ⟨117, _⟩ => ⟨S2x8192x1, .f32⟩
  | .hbm, ⟨118, _⟩ => ⟨S_, .f32⟩
  | .hbm, ⟨119, _⟩ => ⟨S2x8192x1, .f32⟩
  | .hbm, ⟨120, _⟩ => ⟨S2x8192x1, .f32⟩
  | .hbm, ⟨121, _⟩ => ⟨S2x8192x1, .f32⟩
  | .hbm, ⟨122, _⟩ => ⟨S2x8192x1024, .f32⟩
  | .hbm, ⟨123, _⟩ => ⟨S2x8192x1024, .f32⟩
  | .hbm, ⟨124, _⟩ => ⟨S1x1x1024, .f32⟩
  | .hbm, ⟨125, _⟩ => ⟨S2x8192x1024, .f32⟩
  | .hbm, ⟨126, _⟩ => ⟨S2x8192x1024, .f32⟩
  | .hbm, ⟨127, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_13 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_v82 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]
-- ==== Proof.Slab.lean ====
module

public import Idealize.ShloMosaic.Lib.Pipeline.ValueKit
public import Idealize.ShloMosaic.Lib.Pipeline.ReadBack
public import Idealize.ShloMosaic.Lib.Writes
public import Idealize.ShloMosaic.Lib.Pointwise

@[expose] public section

/-!
# A window that is read across the seam of two stores

A causal convolution of the kernel keeps, in one slab of a scratch buffer, eight rows left by the tile before and below
them the 512 rows of the tile at hand.  It then reads 512 rows of that slab from row `off` on, `off` below eight.  What is
read is stated here once: `seam off U H`, the rows of `H` from row `off` on, followed by the rows of `U`.
-/

set_option maxRecDepth 16384

noncomputable section

namespace Cert.Seam

open Idealize.ShloMosaic Idealize.ShloMosaic.TcCoe Idealize.SL.Sem

/-- The 512 rows from row `off` on of the eight rows `H` followed by the 512 rows `U`. -/
def seam {V : Type} (off : ℕ) (hoff : off ≤ 8) (U : (⟨2, ![512, 256]⟩ : Shape).Idx → V) (H : (⟨2, ![8, 256]⟩ : Shape).Idx → V)
    (j : (⟨2, ![512, 256]⟩ : Shape).Idx) : V :=
  if h : off + (j 0).val < 8 then H (ix2 (⟨off + (j 0).val, h⟩ : Fin 8) (j 1 : Fin 256))
  else U (ix2 (⟨off + (j 0).val - 8, by have : (j 0).val < 512 := (j 0).isLt; omega⟩ : Fin 512) (j 1 : Fin 256))

/-- Values on 512 rows of 256 lanes, as values of the same under a leading axis of extent one. -/
def lift3 {V : Type} (f : (⟨2, ![512, 256]⟩ : Shape).Idx → V) (y : (⟨3, ![1, 512, 256]⟩ : Shape).Idx) : V :=
  f (ix2 (y 1 : Fin 512) (y 2 : Fin 256))

/-- Carried back to the shape without the leading axis, they are what they were. -/
theorem lift3_reshape {V : Type} (f : (⟨2, ![512, 256]⟩ : Shape).Idx → V)
    (h : (⟨2, ![512, 256]⟩ : Shape).numel = (⟨3, ![1, 512, 256]⟩ : Shape).numel) (j : (⟨2, ![512, 256]⟩ : Shape).Idx) :
    lift3 f (Shape.reshapeEquiv h j) = f j := by
  have e0 : (Shape.reshapeEquiv h j : (i : Fin 3) → _) = Fin.cons ⟨0, Nat.one_pos⟩ j :=
    Shape.reshapeEquiv_cons_one (d := ![512, 256]) _ _
  rw [e0]
  exact congrArg f (eq_ix2 j).symm

/-- The same, in the form in which a load of the 512 rows from `off` on carries them. -/
theorem valAlong_lift3 {V : Type} (off : ℕ) (f : (⟨2, ![512, 256]⟩ : Shape).Idx → V)
    (i3 : ∀ a, (![off, 0] : Fin 2 → ℕ) a + (![512, 256] : Fin 2 → ℕ) a ≤ (⟨2, ![520, 256]⟩ : Shape).size a)
    (h0 : (![1, 520, 256] : Fin 3 → ℕ) 0 = 1) (hs : ∀ i : Fin 2, (![1, 520, 256] : Fin 3 → ℕ) i.succ = (![520, 256] : Fin 2 → ℕ) i)
    (hR : (Rect.toLoadRect (Rect.unit (s := (⟨2, ![520, 256]⟩ : Shape)) ![off, 0] ![512, 256] i3)).shape.numel
      = (LoadRect.consLift (n := 2) (d := ![520, 256]) (Rect.toLoadRect (Rect.unit (s := ⟨2, ![520, 256]⟩) ![off, 0] ![512, 256] i3))
          ![1, 520, 256] h0 hs).shape.numel) :
    LoadRect.valAlong hR (lift3 f) = f :=
  funext fun j => lift3_reshape f hR.symm.symm j

/-- A read of one slab, right after its two parts were stored there. -/
theorem read_seam {sig : RefSig} {κ : Kind} {sp : Space} {e : EltTy} {Val : EltTy → Type} [∀ e, Nonempty (Val e)] {N : ℕ}
    (v : View sig κ sp (⟨3, ![N, 520, 256]⟩ : Shape) e) (s off : ℕ) (hoff : off ≤ 8)
    (i0 : ∀ a, (![s, 0, 0] : Fin 3 → ℕ) a + (![1, 520, 256] : Fin 3 → ℕ) a ≤ (⟨3, ![N, 520, 256]⟩ : Shape).size a)
    (i1 : ∀ a, (![8, 0] : Fin 2 → ℕ) a + (![512, 256] : Fin 2 → ℕ) a ≤ (⟨2, ![520, 256]⟩ : Shape).size a)
    (i2 : ∀ a, (![0, 0] : Fin 2 → ℕ) a + (![8, 256] : Fin 2 → ℕ) a ≤ (⟨2, ![520, 256]⟩ : Shape).size a)
    (i3 : ∀ a, (![off, 0] : Fin 2 → ℕ) a + (![512, 256] : Fin 2 → ℕ) a ≤ (⟨2, ![520, 256]⟩ : Shape).size a)
    (U : (⟨2, ![512, 256]⟩ : Shape).Idx → Val e) (H : (⟨2, ![8, 256]⟩ : Shape).Idx → Val e)
    (L : List (View.Piece Val (⟨3, ![N, 520, 256]⟩ : Shape) e))
    (h0 : (![1, 520, 256] : Fin 3 → ℕ) 0 = 1) (hs : ∀ i : Fin 2, (![1, 520, 256] : Fin 3 → ℕ) i.succ = (![520, 256] : Fin 2 → ℕ) i)
    (p q r)
    (hU : (Rect.consLift (n := 2) (d := ![520, 256]) (Rect.unit (s := ⟨2, ![520, 256]⟩) ![8, 0] ![512, 256] i1) ![1, 520, 256] h0 hs).shape.numel
          = (Rect.unit (s := (⟨2, ![520, 256]⟩ : Shape)) ![8, 0] ![512, 256] i1).shape.numel)
    (hH : (Rect.consLift (n := 2) (d := ![520, 256]) (Rect.unit (s := ⟨2, ![520, 256]⟩) ![0, 0] ![8, 256] i2) ![1, 520, 256] h0 hs).shape.numel
          = (Rect.unit (s := (⟨2, ![520, 256]⟩ : Shape)) ![0, 0] ![8, 256] i2).shape.numel) :
    v.readCov
        (⟨Rect.within (s := (⟨3, ![N, 520, 256]⟩ : Shape)) (Rect.unit ![s, 0, 0] ![1, 520, 256] i0)
            (Rect.consLift (n := 2) (d := ![520, 256]) (Rect.unit (s := ⟨2, ![520, 256]⟩) ![8, 0] ![512, 256] i1) ![1, 520, 256] h0 hs) p,
          Rect.payAlong hU U⟩
        :: ⟨Rect.within (s := (⟨3, ![N, 520, 256]⟩ : Shape)) (Rect.unit ![s, 0, 0] ![1, 520, 256] i0)
            (Rect.consLift (n := 2) (d := ![520, 256]) (Rect.unit (s := ⟨2, ![520, 256]⟩) ![0, 0] ![8, 256] i2) ![1, 520, 256] h0 hs) q,
          Rect.payAlong hH H⟩ :: L)
        (Rect.withinL (s := (⟨3, ![N, 520, 256]⟩ : Shape)) (Rect.unit ![s, 0, 0] ![1, 520, 256] i0)
          (LoadRect.consLift (n := 2) (d := ![520, 256]) (Rect.toLoadRect (Rect.unit (s := ⟨2, ![520, 256]⟩) ![off, 0] ![512, 256] i3)) ![1, 520, 256] h0 hs) r)
      = lift3 (seam off hoff U H) := by
  rw [View.readCov_eq_canon']
  funext j
  have b0 : (j 1).val < 512 := (j 1).isLt
  have b1 : (j 2).val < 256 := (j 2).isLt
  have b2 : (j 0).val = 0 := by have : (j 0).val < 1 := (j 0).isLt; omega
  show View.canon _ _ = seam off hoff U H (ix2 (j 1 : Fin 512) (j 2 : Fin 256))
  unfold seam
  split
  · next h =>
    have h' : off + (j 1).val < 8 := h
    rw [View.canon_cons_of_not_mem]
    · refine (congrArg _ (Rect.emb_eq_of_coords _ (Fin.cons (⟨0, Nat.one_pos⟩ : Fin 1) (ix2 (⟨off + (j 1).val, h⟩ : Fin 8) (j 2 : Fin 256))) _ ?_).symm).trans
        ((View.canon_cons_emb _ _ _ _).trans ?_)
      · intro a
        fin_cases a
        · show s + 0 + 1 * (j 0).val = s + 0 + 1 * 0; omega
        · show 0 + off + 1 * (j 1).val = 0 + 0 + 1 * (off + (j 1).val); omega
        · show 0 + 0 + 1 * (j 2).val = 0 + 0 + 1 * (j 2).val; rfl
      · exact Rect.payAlong_consLift (Rect.unit (s := (⟨2, ![520, 256]⟩ : Shape)) ![0, 0] ![8, 256] i2) _ h0 hs H _ (Fin.cons (⟨0, Nat.one_pos⟩ : Fin 1) (ix2 (⟨off + (j 1).val, h⟩ : Fin 8) (j 2 : Fin 256)))
          (ix2 (⟨off + (j 1).val, h⟩ : Fin 8) (j 2 : Fin 256)) (fun _ => rfl)
    · refine Rect.not_mem_set_of_axis _ _ (1 : Fin 3) 8 512 rfl rfl rfl (Or.inl ?_)
      show 0 + off + 1 * (j 1).val < 8
      omega
  · next h =>
    have h' : ¬ off + (j 1).val < 8 := h
    refine (congrArg _ (Rect.emb_eq_of_coords _ (Fin.cons (⟨0, Nat.one_pos⟩ : Fin 1) (ix2 (⟨off + (j 1).val - 8, by omega⟩ : Fin 512) (j 2 : Fin 256))) _ ?_).symm).trans
      ((View.canon_cons_emb _ _ _ _).trans ?_)
    · intro a
      fin_cases a
      · show s + 0 + 1 * (j 0).val = s + 0 + 1 * 0; omega
      · show 0 + off + 1 * (j 1).val = 0 + 8 + 1 * (off + (j 1).val - 8); omega
      · show 0 + 0 + 1 * (j 2).val = 0 + 0 + 1 * (j 2).val; rfl
    · exact Rect.payAlong_consLift (Rect.unit (s := (⟨2, ![520, 256]⟩ : Shape)) ![8, 0] ![512, 256] i1) _ h0 hs U _ (Fin.cons (⟨0, Nat.one_pos⟩ : Fin 1) (ix2 (⟨off + (j 1).val - 8, by omega⟩ : Fin 512) (j 2 : Fin 256)))
          (ix2 (⟨off + (j 1).val - 8, by omega⟩ : Fin 512) (j 2 : Fin 256)) (fun _ => rfl)

end Cert.Seam
-- ==== Proof.Tile.lean ====
module

public import proofs.«01_k».proof.Proof.Slab
public import proofs.«01_k».proof.Proof.Gen.Kernel2Ideal.Value

@[expose] public section

/-!
# What one grid point of the feed-forward kernel computes, as one vector function

Every grid point takes 512 rows `x`, normalises them, and goes through the 2816 hidden columns in eleven blocks of 256.
The functions here are the vector operations of one block (`upV`, `convV`, `actV`, `partV`) and of the point (`outV`); the
theorems say that the point's stored block is `outV` of its input blocks and of the eight rows the point before it left.
-/

set_option maxRecDepth 16384

noncomputable section

namespace Cert.Ffn

open Idealize.ShloMosaic Idealize.ShloMosaic.TcCoe Idealize.SL.Sem
open Cert.Kernel2Ideal Cert.Kernel2Ideal.Gen

/-- One column block of the up-projection of the normalised rows `h`. -/
def upV (h : FVec Ideal S512x1024 .bf16) (w : FVec Ideal S1024x256 .bf16) : FVec Ideal S512x256 .f32 :=
  matmul dot_S512x1024_S1024x256_S512x256_1_0_0_1_n_n none h w (constant S512x256 .f32 0x00000000#32)

/-- One column block of the causal convolution of the rows `U`, the rows before them in `H`. -/
def convV (U : FVec Ideal S512x256 .f32) (w : FVec Ideal S3x256 .f32) (b : FVec Ideal S1x256 .f32) (H : FVec Ideal S8x256 .f32) :
    FVec Ideal S512x256 .f32 :=
  addf (addf (addf
    (mulf U (broadcastTo S512x256 (extractStridedSlice S1x256 ![2, 0] w slices_S3x256_o2_0_S1x256) broadcasts_S1x256_S512x256))
    (broadcastTo S512x256 b broadcasts_S1x256_S512x256))
    (mulf (Cert.Seam.seam 6 (by decide) U H)
      (broadcastTo S512x256 (extractStridedSlice S1x256 ![0, 0] w slices_S3x256_o0_0_S1x256) broadcasts_S1x256_S512x256)))
    (mulf (Cert.Seam.seam 7 (by decide) U H)
      (broadcastTo S512x256 (extractStridedSlice S1x256 ![1, 0] w slices_S3x256_o1_0_S1x256) broadcasts_S1x256_S512x256))

/-- The gated activation of one column block: the tanh form of gelu on `p`, times `q`. -/
def actV (p q : FVec Ideal S512x256 .f32) : FVec Ideal S512x256 .bf16 :=
  truncf .bf16 (mulf (mulf p (mulf (broadcast S512x256 (FloatOps.ofBits .f32 0x3F000000#32))
    (addf (broadcast S512x256 (FloatOps.ofBits .f32 0x3F800000#32))
      (tanh (mulf (broadcast S512x256 (FloatOps.ofBits .f32 0x3F4C422A#32))
        (addf p (mulf (broadcast S512x256 (FloatOps.ofBits .f32 0x3D372713#32)) (mulf p (mulf p p))))))))) q) bitsLt_bf16_f32

theorem wu_inb (o : ℕ) (ho : o + 256 ≤ 5632) : ∀ a, (![0, o] : Fin 2 → ℕ) a + (![1024, 256] : Fin 2 → ℕ) a ≤ S1024x5632.size a :=
  Fin.forall_fin_two.2 ⟨Nat.le_refl 1024, ho⟩
theorem cw_inb (o : ℕ) (ho : o + 256 ≤ 5632) : ∀ a, (![0, o] : Fin 2 → ℕ) a + (![3, 256] : Fin 2 → ℕ) a ≤ S3x5632.size a :=
  Fin.forall_fin_two.2 ⟨Nat.le_refl 3, ho⟩
theorem cb_inb (o : ℕ) (ho : o + 256 ≤ 5632) : ∀ a, (![0, o] : Fin 2 → ℕ) a + (![1, 256] : Fin 2 → ℕ) a ≤ S1x5632.size a :=
  Fin.forall_fin_two.2 ⟨Nat.le_refl 1, ho⟩
theorem hl_inb (o : ℕ) (ho : o + 256 ≤ 5632) : ∀ a, (![0, o] : Fin 2 → ℕ) a + (![8, 256] : Fin 2 → ℕ) a ≤ S8x5632.size a :=
  Fin.forall_fin_two.2 ⟨Nat.le_refl 8, ho⟩
theorem wd_inb (o : ℕ) (ho : o + 256 ≤ 2816) : ∀ a, (![o, 0] : Fin 2 → ℕ) a + (![256, 1024] : Fin 2 → ℕ) a ≤ S2816x1024.size a :=
  Fin.forall_fin_two.2 ⟨ho, Nat.le_refl 1024⟩

/-- The columns from `o` on of the convolved up-projection of `h`. -/
def colV (h : FVec Ideal S512x1024 .bf16) (wu : Vec Ideal S1024x5632 .bf16) (cw : Vec Ideal S3x5632 .f32)
    (cb : Vec Ideal S1x5632 .f32) (H : Vec Ideal S8x5632 .f32) (o : ℕ) (ho : o + 256 ≤ 5632) : FVec Ideal S512x256 .f32 :=
  convV (upV h (View.ld wu (Rect.unit (s := S1024x5632) ![0, o] ![1024, 256] (wu_inb o ho))))
    (View.ld cw (Rect.unit (s := S3x5632) ![0, o] ![3, 256] (cw_inb o ho)))
    (View.ld cb (Rect.unit (s := S1x5632) ![0, o] ![1, 256] (cb_inb o ho)))
    (View.ld H (Rect.unit (s := S8x5632) ![0, o] ![8, 256] (hl_inb o ho)))

/-- What the 256 hidden columns from `o` on add to the down-projection. -/
def partV (h : FVec Ideal S512x1024 .bf16) (wu : Vec Ideal S1024x5632 .bf16) (cw : Vec Ideal S3x5632 .f32)
    (cb : Vec Ideal S1x5632 .f32) (wd : Vec Ideal S2816x1024 .bf16) (H : Vec Ideal S8x5632 .f32)
    (o p : ℕ) (ho : o + 256 ≤ 5632) (hp : p + 256 ≤ 5632) (hd : o + 256 ≤ 2816) : FVec Ideal S512x1024 .f32 :=
  matmul (φ₂ := .bf16) dot_S512x256_S256x1024_S512x1024_1_0_0_1_n_n none (actV (colV h wu cw cb H o ho) (colV h wu cw cb H p hp))
    (View.ld wd (Rect.unit (s := S2816x1024) ![o, 0] ![256, 1024] (wd_inb o hd))) (constant S512x1024 .f32 0x00000000#32)

/-- The down-projection, the eleven column blocks added up in their order. -/
def accV (h : FVec Ideal S512x1024 .bf16) (wu : Vec Ideal S1024x5632 .bf16) (cw : Vec Ideal S3x5632 .f32)
    (cb : Vec Ideal S1x5632 .f32) (wd : Vec Ideal S2816x1024 .bf16) (H : Vec Ideal S8x5632 .f32) : FVec Ideal S512x1024 .f32 :=
  addf (addf (addf (addf (addf (addf (addf (addf (addf (addf (partV h wu cw cb wd H 0 2816 (by decide) (by decide) (by decide))
    (partV h wu cw cb wd H 256 3072 (by decide) (by decide) (by decide)))
    (partV h wu cw cb wd H 512 3328 (by decide) (by decide) (by decide)))
    (partV h wu cw cb wd H 768 3584 (by decide) (by decide) (by decide)))
    (partV h wu cw cb wd H 1024 3840 (by decide) (by decide) (by decide)))
    (partV h wu cw cb wd H 1280 4096 (by decide) (by decide) (by decide)))
    (partV h wu cw cb wd H 1536 4352 (by decide) (by decide) (by decide)))
    (partV h wu cw cb wd H 1792 4608 (by decide) (by decide) (by decide)))
    (partV h wu cw cb wd H 2048 4864 (by decide) (by decide) (by decide)))
    (partV h wu cw cb wd H 2304 5120 (by decide) (by decide) (by decide)))
    (partV h wu cw cb wd H 2560 5376 (by decide) (by decide) (by decide))

/-- The block of 512 rows a grid point stores. -/
def outV (x : Vec Ideal S1x512x1024 .f32) (g : Vec Ideal S1x1024 .f32) (wu : Vec Ideal S1024x5632 .bf16) (cw : Vec Ideal S3x5632 .f32)
    (cb : Vec Ideal S1x5632 .f32) (wd : Vec Ideal S2816x1024 .bf16) (gp : Vec Ideal S1x1024 .f32) (H : Vec Ideal S8x5632 .f32) :
    Vec Ideal S1x512x1024 .f32 :=
  k0_pay1 (F := Ideal) (accV (k0_pay3 (F := Ideal) x g) wu cw cb wd H) (shapeCast S512x1024 x shapeCasts_S1x512x1024_S512x1024) gp
    (shapeCast S512x1 (multiReduction .add [1] S512 (mulf (accV (k0_pay3 (F := Ideal) x g) wu cw cb wd H)
      (accV (k0_pay3 (F := Ideal) x g) wu cw cb wd H)) 0x00000000#32 reduces_S512x1024_S512 (.inl rfl) rfl) shapeCasts_S512_S512x1)
    (broadcast S512x1 (FloatOps.ofBits .f32 0x44800000#32))

variable (m : (ℓ : Loc nD τ sig) → Buf (Elt Ideal) ℓ)

set_option maxHeartbeats 1500000 in
set_option backward.isDefEq.respectTransparency false in
/-- At a point that starts a sequence the rows before the block are zero. -/
theorem out_A (c : Dev nD) (t : Fin cfg0.N) (h : t.val % 16 = 0) :
    (outsAt0 m c t.val t.isLt).1
      = outV (iblk m c 0 t) (iblk m c 1 t) (iblk m c 2 t) (iblk m c 3 t) (iblk m c 4 t) (iblk m c 5 t) (iblk m c 6 t) (k0_pay2 (F := Ideal)) := by
  rw [outsAt0_A m c t h]
  frame_open
  simp (disch := decide) only [↓ Cert.Seam.read_seam, Cert.Seam.valAlong_lift3, ↓ View.readCov_skip, ↓ View.readCov_cons_toLoadRect,
    ↓ View.readCov_fill]
  frame_out
  simp only [k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69,
      k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121,
      k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141,
      k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161,
      k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181,
      k0_pay182, k0_pay183, k0_pay184, k0_pay185, k0_pay186, k0_pay187, k0_pay188, k0_pay189, k0_pay190, k0_pay191,
      k0_pay192, k0_pay193, k0_pay194, shapeCast_self]
  rfl

set_option maxHeartbeats 1500000 in
set_option backward.isDefEq.respectTransparency false in
/-- At any other point they are the last rows of the point before. -/
theorem out_B (c : Dev nD) (t : Fin cfg0.N) (h : ¬ t.val % 16 = 0) :
    (outsAt0 m c t.val t.isLt).1
      = outV (iblk m c 0 t) (iblk m c 1 t) (iblk m c 2 t) (iblk m c 3 t) (iblk m c 4 t) (iblk m c 5 t) (iblk m c 6 t)
          (outsAt0 m c (t.val - 1) (Nat.lt_of_le_of_lt (Nat.sub_le _ _) t.isLt)).2 := by
  rw [outsAt0_B m c t h]
  frame_open
  simp (disch := decide) only [↓ Cert.Seam.read_seam, Cert.Seam.valAlong_lift3, ↓ View.readCov_skip, ↓ View.readCov_cons_toLoadRect,
    ↓ View.readCov_fill]
  frame_out
  simp only [read_unread_whole, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69,
      k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121,
      k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141,
      k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161,
      k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181,
      k0_pay182, k0_pay183, k0_pay184, k0_pay185, k0_pay186, k0_pay187, k0_pay188, k0_pay189, k0_pay190, k0_pay191,
      k0_pay192, k0_pay193, k0_pay194, shapeCast_self]
  rfl

end Cert.Ffn
-- ==== Proof.Halo.lean ====
module

public import proofs.«01_k».proof.Proof.Tile

@[expose] public section

/-!
# The rows one grid point leaves for the next

The last eight rows of the point's up-projection, every one of the 5632 columns.
-/

set_option maxRecDepth 16384

noncomputable section

namespace Cert.Ffn

open Idealize.ShloMosaic Idealize.ShloMosaic.TcCoe Idealize.SL.Sem
open Cert.Kernel2Ideal Cert.Kernel2Ideal.Gen

/-- The up-projection at one row and one column. -/
def upS (h : FVec Ideal S512x1024 .bf16) (wu : Vec Ideal S1024x5632 .bf16) (r : Fin 512) (q : Fin 5632) : EReal :=
  ∑ k : Fin 1024, h (ix2 r k) * wu (ix2 k q)

/-- The last eight rows of the up-projection. -/
def haloV (h : FVec Ideal S512x1024 .bf16) (wu : Vec Ideal S1024x5632 .bf16) : Vec Ideal S8x5632 .f32 :=
  fun j => upS h wu ⟨504 + (j 0).val, by have : (j 0).val < 8 := (j 0).isLt; omega⟩ (j 1)

/-- One column block's last eight rows. -/
theorem halo_piece (h : FVec Ideal S512x1024 .bf16) (wu : Vec Ideal S1024x5632 .bf16) (o : ℕ)
    (inb : ∀ a, (![0, o] : Fin 2 → ℕ) a + (![1024, 256] : Fin 2 → ℕ) a ≤ S1024x5632.size a) (x : S8x256.Idx) (y : S8x5632.Idx)
    (h0 : (y 0).val = (x 0).val) (h1 : (y 1).val = o + (x 1).val) :
    extractStridedSlice S8x256 ![504, 0]
      (upV h (View.ld wu (Rect.unit (s := S1024x5632) ![0, o] ![1024, 256] inb))) slices_S512x256_o504_0_S8x256 x
      = haloV h wu y := by
  have e : ∀ k : Fin 1024, View.ld (Val := Elt Ideal) (e' := .bf16) wu (Rect.unit (s := S1024x5632) ![0, o] ![1024, 256] inb) (ix2 k (x 1 : Fin 256))
      = wu (ix2 k (y 1 : Fin 5632)) := fun k =>
    View.ld_unit_apply_of (Val := Elt Ideal) (e := .bf16) wu ![0, o] ![1024, 256] inb (ix2 k (x 1 : Fin 256)) (ix2 k (y 1 : Fin 5632)) (Fin.forall_fin_two.2 ⟨(Nat.zero_add _).symm, h1⟩)
  generalize View.ld (Val := Elt Ideal) (e' := .bf16) wu (Rect.unit (s := S1024x5632) ![0, o] ![1024, 256] inb) = w at e ⊢
  pointwise [upV]
  unfold haloV upS
  refine Finset.sum_congr rfl fun k _ => ?_
  rw [← e k]
  refine congrArg₂ (· * ·) (congrArg h ?_) (congrArg w ?_)
  · exact funext (Fin.forall_fin_two.2 ⟨Fin.ext (by simp [h0]), rfl⟩)
  · rfl

/-- A list of stores whose last entry lies under the others. -/
theorem canon_dropLast {Val : EltTy → Type} [∀ e, Nonempty (Val e)] {S : Shape} {e : EltTy} :
    ∀ (L : List (View.Piece Val S e)) (y : S.Idx), (∃ p ∈ L.dropLast, y ∈ p.1.set) → View.canon L y = View.canon L.dropLast y
  | [], _, hc => by obtain ⟨p, hp, _⟩ := hc; exact absurd hp List.not_mem_nil
  | [_], _, hc => by obtain ⟨p, hp, _⟩ := hc; exact absurd hp List.not_mem_nil
  | p :: q :: L, y, hc => by
    have ih := canon_dropLast (q :: L) y
    show View.canon (p :: q :: L) y = View.canon (p :: (q :: L).dropLast) y
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine ih ?_
      obtain ⟨q', hq, hy⟩ := hc
      rcases List.mem_cons.mp hq with rfl | hq'
      · exact absurd hy hm
      · exact ⟨q', hq', hy⟩

variable (m : (ℓ : Loc nD τ sig) → Buf (Elt Ideal) ℓ)

set_option maxHeartbeats 1500000 in
set_option backward.isDefEq.respectTransparency false in
theorem halo_A (c : Dev nD) (t : Fin cfg0.N) (ht : t.val % 16 = 0) :
    (outsAt0 m c t.val t.isLt).2 = haloV (k0_pay3 (F := Ideal) (iblk m c 0 t) (iblk m c 1 t)) (iblk m c 2 t) := by
  rw [outsAt0_A m c t ht]
  frame_open
  simp (disch := decide) only [↓ View.readCov_skip, ↓ View.readCov_cons_toLoadRect, ↓ View.readCov_fill]
  frame_out
  simp only [k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69,
      k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121,
      k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141,
      k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161,
      k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181,
      k0_pay182, k0_pay183, k0_pay184, k0_pay185, k0_pay186, k0_pay187, k0_pay188, k0_pay189, k0_pay190, k0_pay191,
      k0_pay192, k0_pay193, k0_pay194, shapeCast_self]
  clear ht
  generalize k0_pay3 (F := Ideal) (iblk m c 0 t) (iblk m c 1 t) = h
  generalize iblk m c 2 t = w
  funext y
  refine (canon_dropLast _ y ?_).trans ?_
  · dsimp only [List.dropLast]
    exact View.cover_of_tiled_head _ _ _ rfl y
  dsimp only [List.dropLast]
  canon_tiles x h
  all_goals exact halo_piece h w _ _ x y h0 (by omega)

set_option maxHeartbeats 1500000 in
set_option backward.isDefEq.respectTransparency false in
theorem halo_B (c : Dev nD) (t : Fin cfg0.N) (ht : ¬ t.val % 16 = 0) :
    (outsAt0 m c t.val t.isLt).2 = haloV (k0_pay3 (F := Ideal) (iblk m c 0 t) (iblk m c 1 t)) (iblk m c 2 t) := by
  rw [outsAt0_B m c t ht]
  frame_open
  simp (disch := decide) only [↓ View.readCov_skip, ↓ View.readCov_cons_toLoadRect, ↓ View.readCov_fill]
  frame_out
  simp only [k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69,
      k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121,
      k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141,
      k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161,
      k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181,
      k0_pay182, k0_pay183, k0_pay184, k0_pay185, k0_pay186, k0_pay187, k0_pay188, k0_pay189, k0_pay190, k0_pay191,
      k0_pay192, k0_pay193, k0_pay194, shapeCast_self]
  clear ht
  generalize k0_pay3 (F := Ideal) (iblk m c 0 t) (iblk m c 1 t) = h
  generalize iblk m c 2 t = w
  funext y
  canon_tiles x h
  all_goals exact halo_piece h w _ _ x y h0 (by omega)

end Cert.Ffn
-- ==== Proof.Scalar.lean ====
module

public import proofs.«01_k».proof.Proof.Halo

@[expose] public section

/-!
# One grid point's block, element by element

The vector functions of a grid point read at one row and one column: the convolved up-projection (`convS`), the gated
activation (`actS`), the down-projection as one sum over the 2816 hidden columns (`accS`), and the stored element.
-/

set_option maxRecDepth 16384

noncomputable section

namespace Cert.Ffn

open Idealize.ShloMosaic Idealize.ShloMosaic.TcCoe Idealize.SL.Sem
open Cert.Kernel2Ideal Cert.Kernel2Ideal.Gen

/-- The gated activation of two numbers. -/
def actS (p q : EReal) : EReal :=
  p * (Ideal.ofBits .f32 0x3F000000#32 * (Ideal.ofBits .f32 0x3F800000#32
    + Ideal.tanh (Ideal.ofBits .f32 0x3F4C422A#32 * (p + Ideal.ofBits .f32 0x3D372713#32 * (p * (p * p)))))) * q

/-- The row `off` places after the first of the eight rows `H` and row `r`, of the up-projection. -/
def rowS (h : FVec Ideal S512x1024 .bf16) (wu : Vec Ideal S1024x5632 .bf16) (H : Vec Ideal S8x5632 .f32) (off : ℕ) (hoff : off ≤ 8)
    (r : Fin 512) (q : Fin 5632) : EReal :=
  if hr : off + r.val < 8 then H (ix2 (⟨off + r.val, hr⟩ : Fin 8) q) else upS h wu ⟨off + r.val - 8, by omega⟩ q

/-- The convolved up-projection at one row and one column. -/
def convS (h : FVec Ideal S512x1024 .bf16) (wu : Vec Ideal S1024x5632 .bf16) (cw : Vec Ideal S3x5632 .f32)
    (cb : Vec Ideal S1x5632 .f32) (H : Vec Ideal S8x5632 .f32) (r : Fin 512) (q : Fin 5632) : EReal :=
  upS h wu r q * cw (ix2 (2 : Fin 3) q) + cb (ix2 (0 : Fin 1) q) + rowS h wu H 6 (by decide) r q * cw (ix2 (0 : Fin 3) q)
    + rowS h wu H 7 (by decide) r q * cw (ix2 (1 : Fin 3) q)

/-- The down-projection at one row and one column. -/
def accS (h : FVec Ideal S512x1024 .bf16) (wu : Vec Ideal S1024x5632 .bf16) (cw : Vec Ideal S3x5632 .f32)
    (cb : Vec Ideal S1x5632 .f32) (wd : Vec Ideal S2816x1024 .bf16) (H : Vec Ideal S8x5632 .f32) (r : Fin 512) (n : Fin 1024) : EReal :=
  ∑ f : Fin 2816, actS (convS h wu cw cb H r ⟨f.val, by omega⟩) (convS h wu cw cb H r ⟨2816 + f.val, by omega⟩) * wd (ix2 f n)

/-- The part of that sum that one block of 256 hidden columns makes. -/
def blockS (h : FVec Ideal S512x1024 .bf16) (wu : Vec Ideal S1024x5632 .bf16) (cw : Vec Ideal S3x5632 .f32)
    (cb : Vec Ideal S1x5632 .f32) (wd : Vec Ideal S2816x1024 .bf16) (H : Vec Ideal S8x5632 .f32) (r : Fin 512) (n : Fin 1024)
    (j : Fin 11) : EReal :=
  ∑ k : Fin 256, actS (convS h wu cw cb H r ⟨j.val * 256 + k.val, by omega⟩)
    (convS h wu cw cb H r ⟨2816 + (j.val * 256 + k.val), by omega⟩) * wd (ix2 (⟨j.val * 256 + k.val, by omega⟩ : Fin 2816) n)

theorem upV_apply (h : FVec Ideal S512x1024 .bf16) (w : FVec Ideal S1024x256 .bf16) (r : Fin 512) (n : Fin 256) :
    upV h w (ix2 r n) = ∑ k : Fin 1024, h (ix2 r k) * w (ix2 k n) := by
  pointwise [upV]

theorem convV_apply (U : FVec Ideal S512x256 .f32) (w : FVec Ideal S3x256 .f32) (b : FVec Ideal S1x256 .f32) (H : FVec Ideal S8x256 .f32)
    (r : Fin 512) (n : Fin 256) :
    convV U w b H (ix2 r n) = U (ix2 r n) * w (ix2 (2 : Fin 3) n) + b (ix2 (0 : Fin 1) n)
      + Cert.Seam.seam 6 (by decide) U H (ix2 r n) * w (ix2 (0 : Fin 3) n)
      + Cert.Seam.seam 7 (by decide) U H (ix2 r n) * w (ix2 (1 : Fin 3) n) := by
  pointwise [convV]

theorem actV_apply (p q : FVec Ideal S512x256 .f32) (r : Fin 512) (n : Fin 256) :
    actV p q (ix2 r n) = actS (p (ix2 r n)) (q (ix2 r n)) := by
  pointwise [actV, actS]

theorem colV_apply (h : FVec Ideal S512x1024 .bf16) (wu : Vec Ideal S1024x5632 .bf16) (cw : Vec Ideal S3x5632 .f32)
    (cb : Vec Ideal S1x5632 .f32) (H : Vec Ideal S8x5632 .f32) (o : ℕ) (ho : o + 256 ≤ 5632) (r : Fin 512) (n : Fin 256) :
    colV h wu cw cb H o ho (ix2 r n) = convS h wu cw cb H r ⟨o + n.val, by omega⟩ := by
  have eu : ∀ k : Fin 1024, View.ld (Val := Elt Ideal) (e' := .bf16) wu (Rect.unit (s := S1024x5632) ![0, o] ![1024, 256] (wu_inb o ho)) (ix2 k n)
      = wu (ix2 k (⟨o + n.val, by omega⟩ : Fin 5632)) := fun k =>
    View.ld_unit_apply_of (Val := Elt Ideal) (e := .bf16) wu ![0, o] ![1024, 256] (wu_inb o ho) (ix2 k n) (ix2 k (⟨o + n.val, by omega⟩ : Fin 5632))
      (Fin.forall_fin_two.2 ⟨(Nat.zero_add _).symm, rfl⟩)
  have ew : ∀ k : Fin 3, View.ld (Val := Elt Ideal) (e' := .f32) cw (Rect.unit (s := S3x5632) ![0, o] ![3, 256] (cw_inb o ho)) (ix2 k n)
      = cw (ix2 k (⟨o + n.val, by omega⟩ : Fin 5632)) := fun k =>
    View.ld_unit_apply_of (Val := Elt Ideal) (e := .f32) cw ![0, o] ![3, 256] (cw_inb o ho) (ix2 k n) (ix2 k (⟨o + n.val, by omega⟩ : Fin 5632))
      (Fin.forall_fin_two.2 ⟨(Nat.zero_add _).symm, rfl⟩)
  have eb : ∀ k : Fin 1, View.ld (Val := Elt Ideal) (e' := .f32) cb (Rect.unit (s := S1x5632) ![0, o] ![1, 256] (cb_inb o ho)) (ix2 k n)
      = cb (ix2 k (⟨o + n.val, by omega⟩ : Fin 5632)) := fun k =>
    View.ld_unit_apply_of (Val := Elt Ideal) (e := .f32) cb ![0, o] ![1, 256] (cb_inb o ho) (ix2 k n) (ix2 k (⟨o + n.val, by omega⟩ : Fin 5632))
      (Fin.forall_fin_two.2 ⟨(Nat.zero_add _).symm, rfl⟩)
  have eh : ∀ k : Fin 8, View.ld (Val := Elt Ideal) (e' := .f32) H (Rect.unit (s := S8x5632) ![0, o] ![8, 256] (hl_inb o ho)) (ix2 k n)
      = H (ix2 k (⟨o + n.val, by omega⟩ : Fin 5632)) := fun k =>
    View.ld_unit_apply_of (Val := Elt Ideal) (e := .f32) H ![0, o] ![8, 256] (hl_inb o ho) (ix2 k n) (ix2 k (⟨o + n.val, by omega⟩ : Fin 5632))
      (Fin.forall_fin_two.2 ⟨(Nat.zero_add _).symm, rfl⟩)
  have es : ∀ (off : ℕ) (hoff : off ≤ 8),
      Cert.Seam.seam off hoff (upV h (View.ld wu (Rect.unit (s := S1024x5632) ![0, o] ![1024, 256] (wu_inb o ho))))
        (View.ld H (Rect.unit (s := S8x5632) ![0, o] ![8, 256] (hl_inb o ho))) (ix2 r n)
      = rowS h wu H off hoff r ⟨o + n.val, by omega⟩ := by
    intro off hoff
    unfold Cert.Seam.seam rowS
    by_cases hr : off + r.val < 8
    · refine (dif_pos hr).trans (Eq.trans ?_ (dif_pos hr).symm)
      exact eh _
    · refine (dif_neg hr).trans (Eq.trans ?_ (dif_neg hr).symm)
      exact (upV_apply _ _ _ _).trans (Finset.sum_congr rfl fun k _ => congrArg (h _ * ·) (eu k))
  refine (convV_apply _ _ _ _ r n).trans ?_
  unfold convS
  refine congrArg₂ (· + ·) (congrArg₂ (· + ·) (congrArg₂ (· + ·) (congrArg₂ (· * ·) ?_ (ew 2)) (eb 0)) (congrArg₂ (· * ·) (es 6 _) (ew 0)))
    (congrArg₂ (· * ·) (es 7 _) (ew 1))
  exact (upV_apply _ _ _ _).trans (Finset.sum_congr rfl fun k _ => congrArg (h _ * ·) (eu k))

theorem partV_apply (h : FVec Ideal S512x1024 .bf16) (wu : Vec Ideal S1024x5632 .bf16) (cw : Vec Ideal S3x5632 .f32)
    (cb : Vec Ideal S1x5632 .f32) (wd : Vec Ideal S2816x1024 .bf16) (H : Vec Ideal S8x5632 .f32)
    (o p : ℕ) (ho : o + 256 ≤ 5632) (hp : p + 256 ≤ 5632) (hd : o + 256 ≤ 2816) (r : Fin 512) (n : Fin 1024) :
    partV h wu cw cb wd H o p ho hp hd (ix2 r n)
      = ∑ k : Fin 256, actS (convS h wu cw cb H r ⟨o + k.val, by omega⟩) (convS h wu cw cb H r ⟨p + k.val, by omega⟩)
          * wd (ix2 (⟨o + k.val, by omega⟩ : Fin 2816) n) := by
  have ed : ∀ k : Fin 256, View.ld (Val := Elt Ideal) (e' := .bf16) wd (Rect.unit (s := S2816x1024) ![o, 0] ![256, 1024] (wd_inb o hd)) (ix2 k n)
      = wd (ix2 (⟨o + k.val, by omega⟩ : Fin 2816) n) := fun k =>
    View.ld_unit_apply_of (Val := Elt Ideal) (e := .bf16) wd ![o, 0] ![256, 1024] (wd_inb o hd) (ix2 k n) (ix2 (⟨o + k.val, by omega⟩ : Fin 2816) n)
      (Fin.forall_fin_two.2 ⟨rfl, (Nat.zero_add _).symm⟩)
  have ea : ∀ k : Fin 256, actV (colV h wu cw cb H o ho) (colV h wu cw cb H p hp) (ix2 r k)
      = actS (convS h wu cw cb H r ⟨o + k.val, by omega⟩) (convS h wu cw cb H r ⟨p + k.val, by omega⟩) := fun k => by
    rw [actV_apply, colV_apply, colV_apply]
  unfold partV
  generalize View.ld (Val := Elt Ideal) (e' := .bf16) wd (Rect.unit (s := S2816x1024) ![o, 0] ![256, 1024] (wd_inb o hd)) = w at ed ⊢
  generalize actV (colV h wu cw cb H o ho) (colV h wu cw cb H p hp) = a at ea ⊢
  have e : matmul (F := Ideal) (φ₂ := .bf16) dot_S512x256_S256x1024_S512x1024_1_0_0_1_n_n none a w (constant S512x1024 .f32 0x00000000#32) (ix2 r n)
      = ∑ k : Fin 256, a (ix2 r k) * w (ix2 k n) := by
    clear ea ed
    change FVec Ideal S256x1024 .bf16 at w
    pointwise
  exact e.trans (Finset.sum_congr rfl fun k _ => congrArg₂ (· * ·) (ea k) (ed k))

theorem partV_block (h : FVec Ideal S512x1024 .bf16) (wu : Vec Ideal S1024x5632 .bf16) (cw : Vec Ideal S3x5632 .f32)
    (cb : Vec Ideal S1x5632 .f32) (wd : Vec Ideal S2816x1024 .bf16) (H : Vec Ideal S8x5632 .f32) (r : Fin 512) (n : Fin 1024)
    (j : Fin 11) (o p : ℕ) (eo : o = j.val * 256) (ep : p = 2816 + j.val * 256) (ho : o + 256 ≤ 5632) (hp : p + 256 ≤ 5632)
    (hd : o + 256 ≤ 2816) :
    partV h wu cw cb wd H o p ho hp hd (ix2 r n) = blockS h wu cw cb wd H r n j := by
  subst eo ep
  refine (partV_apply h wu cw cb wd H _ _ ho hp hd r n).trans (Finset.sum_congr rfl fun k _ => ?_)
  have e : (⟨2816 + j.val * 256 + k.val, by omega⟩ : Fin 5632) = ⟨2816 + (j.val * 256 + k.val), by omega⟩ := Fin.ext (Nat.add_assoc _ _ _)
  rw [e]

theorem sum_eleven (P : Fin 11 → EReal) :
    ∑ j, P j = P 0 + P 1 + P 2 + P 3 + P 4 + P 5 + P 6 + P 7 + P 8 + P 9 + P 10 := by
  rw [Fin.sum_univ_castSucc, Fin.sum_univ_castSucc, Fin.sum_univ_castSucc, Fin.sum_univ_eight]
  rfl

theorem accV_apply (h : FVec Ideal S512x1024 .bf16) (wu : Vec Ideal S1024x5632 .bf16) (cw : Vec Ideal S3x5632 .f32)
    (cb : Vec Ideal S1x5632 .f32) (wd : Vec Ideal S2816x1024 .bf16) (H : Vec Ideal S8x5632 .f32) (r : Fin 512) (n : Fin 1024) :
    accV h wu cw cb wd H (ix2 r n) = accS h wu cw cb wd H r n := by
  have e : accS h wu cw cb wd H r n = ∑ j : Fin 11, blockS h wu cw cb wd H r n j :=
    Fin.sum_univ_tiles 11 256 rfl (fun f : Fin 2816 => actS (convS h wu cw cb H r ⟨f.val, by omega⟩)
      (convS h wu cw cb H r ⟨2816 + f.val, by omega⟩) * wd (ix2 f n))
  rw [e, sum_eleven]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (partV_block h wu cw cb wd H r n 0 0 2816 rfl rfl (by decide) (by decide) (by decide))
    (partV_block h wu cw cb wd H r n 1 256 3072 rfl rfl (by decide) (by decide) (by decide)))
    (partV_block h wu cw cb wd H r n 2 512 3328 rfl rfl (by decide) (by decide) (by decide)))
    (partV_block h wu cw cb wd H r n 3 768 3584 rfl rfl (by decide) (by decide) (by decide)))
    (partV_block h wu cw cb wd H r n 4 1024 3840 rfl rfl (by decide) (by decide) (by decide)))
    (partV_block h wu cw cb wd H r n 5 1280 4096 rfl rfl (by decide) (by decide) (by decide)))
    (partV_block h wu cw cb wd H r n 6 1536 4352 rfl rfl (by decide) (by decide) (by decide)))
    (partV_block h wu cw cb wd H r n 7 1792 4608 rfl rfl (by decide) (by decide) (by decide)))
    (partV_block h wu cw cb wd H r n 8 2048 4864 rfl rfl (by decide) (by decide) (by decide)))
    (partV_block h wu cw cb wd H r n 9 2304 5120 rfl rfl (by decide) (by decide) (by decide)))
    (partV_block h wu cw cb wd H r n 10 2560 5376 rfl rfl (by decide) (by decide) (by decide)))

theorem outV_apply (x : Vec Ideal S1x512x1024 .f32) (g : Vec Ideal S1x1024 .f32) (wu : Vec Ideal S1024x5632 .bf16) (cw : Vec Ideal S3x5632 .f32)
    (cb : Vec Ideal S1x5632 .f32) (wd : Vec Ideal S2816x1024 .bf16) (gp : Vec Ideal S1x1024 .f32) (H : Vec Ideal S8x5632 .f32)
    (r : Fin 512) (n : Fin 1024) :
    outV x g wu cw cb wd gp H (ix3 (0 : Fin 1) r n)
      = x (ix3 (0 : Fin 1) r n) + accS (k0_pay3 (F := Ideal) x g) wu cw cb wd H r n
          * Ideal.rsqrt (Ideal.div (∑ k : Fin 1024, accS (k0_pay3 (F := Ideal) x g) wu cw cb wd H r k * accS (k0_pay3 (F := Ideal) x g) wu cw cb wd H r k)
              (Ideal.ofBits .f32 0x44800000#32) + Ideal.ofBits .f32 0x358637BD#32) * gp (ix2 (0 : Fin 1) n) := by
  unfold outV
  have ea := accV_apply (k0_pay3 (F := Ideal) x g) wu cw cb wd H
  generalize accV (k0_pay3 (F := Ideal) x g) wu cw cb wd H = a at ea ⊢
  generalize accS (k0_pay3 (F := Ideal) x g) wu cw cb wd H = s at ea ⊢
  pointwise [k0_pay1]
  simp only [ea]

theorem pay3_apply (x : Vec Ideal S1x512x1024 .f32) (g : Vec Ideal S1x1024 .f32) (r : Fin 512) (n : Fin 1024) :
    k0_pay3 (F := Ideal) x g (ix2 r n)
      = x (ix3 (0 : Fin 1) r n) * Ideal.rsqrt (Ideal.div (∑ k : Fin 1024, x (ix3 (0 : Fin 1) r k) * x (ix3 (0 : Fin 1) r k))
          (Ideal.ofBits .f32 0x44800000#32) + Ideal.ofBits .f32 0x358637BD#32) * g (ix2 (0 : Fin 1) n) := by
  pointwise [k0_pay3]

end Cert.Ffn
-- ==== Proof.Spec.lean ====
module

public import proofs.«01_k».proof.Proof.Scalar

@[expose] public section

/-!
# The feed-forward layer at one element of the result

`b` is the batch, `s` the time, `q` a column of the up-projection, `n` a column of the result. The layer: normalise the row,
project up, convolve each column with the two rows before it in time (nothing before time zero), gate, project down,
normalise, add to the input. Then: a grid point's block is 512 rows of this, when its input blocks are the rows and the
weights, and the eight rows it is handed are the up-projection of the eight times before it.
-/

set_option maxRecDepth 16384

noncomputable section

namespace Cert.Ffn

open Idealize.ShloMosaic Idealize.ShloMosaic.TcCoe Idealize.SL.Sem
open Cert.Kernel2Ideal Cert.Kernel2Ideal.Gen

section
variable (X : Fin 2 → Fin 8192 → Fin 1024 → EReal) (G : Fin 1024 → EReal) (Wu : Fin 1024 → Fin 5632 → EReal)
  (Cw : Fin 3 → Fin 5632 → EReal) (Cb : Fin 5632 → EReal) (Wd : Fin 2816 → Fin 1024 → EReal) (Gp : Fin 1024 → EReal)

/-- A row divided by the root of its mean square, times the scale. -/
def normG (f : Fin 1024 → EReal) (g : Fin 1024 → EReal) (k : Fin 1024) : EReal :=
  f k * Ideal.rsqrt (Ideal.div (∑ k : Fin 1024, f k * f k) (Ideal.ofBits .f32 0x44800000#32) + Ideal.ofBits .f32 0x358637BD#32) * g k

/-- The up-projection of the normalised row. -/
def upG (b : Fin 2) (s : Fin 8192) (q : Fin 5632) : EReal := ∑ k : Fin 1024, normG (X b s) G k * Wu k q

/-- The up-projection `d` steps back in time, zero before the first step. -/
def backG (d : ℕ) (b : Fin 2) (s : Fin 8192) (q : Fin 5632) : EReal :=
  if d ≤ s.val then upG X G Wu b ⟨s.val - d, by omega⟩ q else 0

/-- The causal convolution. -/
def convG (b : Fin 2) (s : Fin 8192) (q : Fin 5632) : EReal :=
  upG X G Wu b s q * Cw 2 q + Cb q + backG X G Wu 2 b s q * Cw 0 q + backG X G Wu 1 b s q * Cw 1 q

/-- The down-projection of the gated columns. -/
def downG (b : Fin 2) (s : Fin 8192) (n : Fin 1024) : EReal :=
  ∑ f : Fin 2816, actS (convG X G Wu Cw Cb b s ⟨f.val, by omega⟩) (convG X G Wu Cw Cb b s ⟨2816 + f.val, by omega⟩) * Wd f n

/-- The layer's result. -/
def outG (b : Fin 2) (s : Fin 8192) (n : Fin 1024) : EReal :=
  X b s n + normG (downG X G Wu Cw Cb Wd b s) Gp n

end

section
variable {X : Fin 2 → Fin 8192 → Fin 1024 → EReal} {G : Fin 1024 → EReal} {Wu : Fin 1024 → Fin 5632 → EReal}
  {Cw : Fin 3 → Fin 5632 → EReal} {Cb : Fin 5632 → EReal} {Wd : Fin 2816 → Fin 1024 → EReal} {Gp : Fin 1024 → EReal}
  {x : Vec Ideal S1x512x1024 .f32} {g : Vec Ideal S1x1024 .f32} {wu : Vec Ideal S1024x5632 .bf16} {cw : Vec Ideal S3x5632 .f32}
  {cb : Vec Ideal S1x5632 .f32} {wd : Vec Ideal S2816x1024 .bf16} {gp : Vec Ideal S1x1024 .f32} {H : Vec Ideal S8x5632 .f32}
  {b : Fin 2} {ti : Fin 16}

/-- Row `r` of the time tile `ti`. -/
def rowOf (ti : Fin 16) (r : Fin 512) : Fin 8192 := ⟨ti.val * 512 + r.val, by omega⟩

theorem up_tile (hx : ∀ r k, x (ix3 (0 : Fin 1) r k) = X b (rowOf ti r) k) (hg : ∀ k, g (ix2 (0 : Fin 1) k) = G k)
    (hwu : ∀ k q, wu (ix2 k q) = Wu k q) (r : Fin 512) (q : Fin 5632) :
    upS (k0_pay3 (F := Ideal) x g) wu r q = upG X G Wu b (rowOf ti r) q := by
  unfold upS upG normG
  refine Finset.sum_congr rfl fun k _ => ?_
  rw [pay3_apply]
  simp only [hx, hg, hwu]

theorem row_tile (hx : ∀ r k, x (ix3 (0 : Fin 1) r k) = X b (rowOf ti r) k) (hg : ∀ k, g (ix2 (0 : Fin 1) k) = G k)
    (hwu : ∀ k q, wu (ix2 k q) = Wu k q)
    (hH : ∀ (i : Fin 8) q, H (ix2 i q) = backG X G Wu (8 - i.val) b (rowOf ti 0) q)
    (off : ℕ) (hoff : off ≤ 8) (r : Fin 512) (q : Fin 5632) :
    rowS (k0_pay3 (F := Ideal) x g) wu H off hoff r q = backG X G Wu (8 - off) b (rowOf ti r) q := by
  unfold rowS
  by_cases hr : off + r.val < 8
  · rw [dif_pos hr, hH]
    unfold backG
    have e0 : (rowOf ti 0).val = ti.val * 512 := Nat.add_zero _
    have e1 : (rowOf ti r).val = ti.val * 512 + r.val := rfl
    by_cases ht : ti.val = 0
    · rw [if_neg (by rw [e0]; show ¬ 8 - (off + r.val) ≤ _; omega), if_neg (by rw [e1]; omega)]
    · rw [if_pos (by rw [e0]; show 8 - (off + r.val) ≤ _; omega), if_pos (by rw [e1]; omega)]
      refine congrArg (fun s => upG X G Wu b s q) (Fin.ext ?_)
      show (rowOf ti 0).val - (8 - (off + r.val)) = (rowOf ti r).val - (8 - off)
      rw [e0, e1]; omega
  · rw [dif_neg hr, up_tile hx hg hwu]
    unfold backG
    have e1 : (rowOf ti r).val = ti.val * 512 + r.val := rfl
    rw [if_pos (by rw [e1]; omega)]
    refine congrArg (fun s => upG X G Wu b s q) (Fin.ext ?_)
    show ti.val * 512 + (off + r.val - 8) = ti.val * 512 + r.val - (8 - off)
    omega

theorem out_tile (hx : ∀ r k, x (ix3 (0 : Fin 1) r k) = X b (rowOf ti r) k) (hg : ∀ k, g (ix2 (0 : Fin 1) k) = G k)
    (hwu : ∀ k q, wu (ix2 k q) = Wu k q) (hcw : ∀ j q, cw (ix2 j q) = Cw j q) (hcb : ∀ q, cb (ix2 (0 : Fin 1) q) = Cb q)
    (hwd : ∀ f n, wd (ix2 f n) = Wd f n) (hgp : ∀ n, gp (ix2 (0 : Fin 1) n) = Gp n)
    (hH : ∀ (i : Fin 8) q, H (ix2 i q) = backG X G Wu (8 - i.val) b (rowOf ti 0) q) (r : Fin 512) (n : Fin 1024) :
    outV x g wu cw cb wd gp H (ix3 (0 : Fin 1) r n) = outG X G Wu Cw Cb Wd Gp b (rowOf ti r) n := by
  have hc : ∀ q, convS (k0_pay3 (F := Ideal) x g) wu cw cb H r q = convG X G Wu Cw Cb b (rowOf ti r) q := fun q => by
    unfold convS convG
    rw [up_tile hx hg hwu, row_tile hx hg hwu hH, row_tile hx hg hwu hH, hcw, hcw, hcw, hcb]
  have ha : ∀ n, accS (k0_pay3 (F := Ideal) x g) wu cw cb wd H r n = downG X G Wu Cw Cb Wd b (rowOf ti r) n := fun n => by
    unfold accS downG
    refine Finset.sum_congr rfl fun f _ => ?_
    rw [hc, hc, hwd]
  rw [outV_apply]
  simp only [ha, hx, hgp]
  rfl

/-- The eight rows a point leaves are those that the next time tile is to be handed. -/
theorem halo_tile (hx : ∀ r k, x (ix3 (0 : Fin 1) r k) = X b (rowOf ti r) k) (hg : ∀ k, g (ix2 (0 : Fin 1) k) = G k)
    (hwu : ∀ k q, wu (ix2 k q) = Wu k q) (ti' : Fin 16) (h : ti'.val = ti.val + 1) (i : Fin 8) (q : Fin 5632) :
    haloV (k0_pay3 (F := Ideal) x g) wu (ix2 i q) = backG X G Wu (8 - i.val) b (rowOf ti' 0) q := by
  refine (up_tile hx hg hwu ⟨504 + i.val, by omega⟩ q).trans ?_
  unfold backG
  have e0 : (rowOf ti' 0).val = ti'.val * 512 := Nat.add_zero _
  rw [if_pos (by rw [e0]; omega)]
  refine congrArg (fun s => upG X G Wu b s q) (Fin.ext ?_)
  show ti.val * 512 + (504 + i.val) = (rowOf ti' 0).val - (8 - i.val)
  rw [e0]; omega

/-- The first time tile is handed zeros. -/
theorem zero_tile (ht : ti.val = 0) (i : Fin 8) (q : Fin 5632) :
    k0_pay2 (F := Ideal) (ix2 i q) = backG X G Wu (8 - i.val) b (rowOf ti 0) q := by
  unfold backG
  have e0 : (rowOf ti 0).val = ti.val * 512 := Nat.add_zero _
  rw [if_neg (by rw [e0]; omega)]
  pointwise [k0_pay2]

end

end Cert.Ffn
-- ==== Proof.Glob.lean ====
module

public import proofs.«01_k».proof.Proof.Spec

@[expose] public section

/-!
# The array the feed-forward kernel leaves

Each grid point's input blocks read at an element, and the whole result at one.
-/

set_option maxRecDepth 16384

noncomputable section

namespace Cert.Ffn

open Idealize.ShloMosaic Idealize.ShloMosaic.TcCoe Idealize.SL.Sem
open Cert.Kernel2Ideal Cert.Kernel2Ideal.Gen Cert.Kernel2Ideal.Value

variable (m : (ℓ : Loc nD τ sig) → Buf (Elt Ideal) ℓ)

/-- The batch of grid point `t`. -/
def bOf (t : Fin cfg0.N) : Fin 2 := ⟨t.val / 16, by have := lt_of_lt_of_eq t.isLt (show cfg0.N = 32 from N_0); omega⟩
/-- The time tile of grid point `t`. -/
def tOf (t : Fin cfg0.N) : Fin 16 := ⟨t.val % 16, Nat.mod_lt _ (by decide)⟩

theorem idx0 : ∀ t : Fin cfg0.N, win0_0.index t = ![t.val / 16, t.val % 16, 0] :=
  (by decide +kernel : ∀ t : Fin grid0.N, win0_0.index t = ![t.val / 16, t.val % 16, 0])
theorem idxc : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0])

theorem blk0 (c : Dev nD) (t : Fin cfg0.N) (r : Fin 512) (k : Fin 1024) :
    iblk m c 0 t (ix3 (0 : Fin 1) r k) = m ((c : Thread nD τ).loc main_arg0) (ix3 (bOf t) (rowOf (tOf t) r) k) := by
  blk_point [iblk, V, idx0 t, bOf, tOf, rowOf, V_main_arg0 m c]

theorem blk1 (c : Dev nD) (t : Fin cfg0.N) (k : Fin 1024) :
    iblk m c 1 t (ix2 (0 : Fin 1) k) = m ((c : Thread nD τ).loc main_arg1) (ix2 (0 : Fin 1) k) := by
  blk_point [iblk, V, idxc t]

theorem blk2 (c : Dev nD) (t : Fin cfg0.N) (k : Fin 1024) (q : Fin 5632) :
    iblk m c 2 t (ix2 k q) = m ((c : Thread nD τ).loc main_arg2) (ix3 (0 : Fin 1) k q) := by
  blk_point [iblk, V, idxc t]

theorem blk3 (c : Dev nD) (t : Fin cfg0.N) (k : Fin 3) (q : Fin 5632) :
    iblk m c 3 t (ix2 k q) = m ((c : Thread nD τ).loc main_arg3) (ix3 (0 : Fin 1) k q) := by
  blk_point [iblk, V, idxc t]

theorem blk4 (c : Dev nD) (t : Fin cfg0.N) (q : Fin 5632) :
    iblk m c 4 t (ix2 (0 : Fin 1) q) = m ((c : Thread nD τ).loc main_arg4) (ix2 (0 : Fin 1) q) := by
  blk_point [iblk, V, idxc t]

theorem blk5 (c : Dev nD) (t : Fin cfg0.N) (k : Fin 2816) (q : Fin 1024) :
    iblk m c 5 t (ix2 k q) = m ((c : Thread nD τ).loc main_arg5) (ix3 (0 : Fin 1) k q) := by
  blk_point [iblk, V, idxc t]

theorem blk6 (c : Dev nD) (t : Fin cfg0.N) (q : Fin 1024) :
    iblk m c 6 t (ix2 (0 : Fin 1) q) = m ((c : Thread nD τ).loc main_arg6) (ix2 (0 : Fin 1) q) := by
  blk_point [iblk, V, idxc t]

/-- The layer's result from what the program is given. -/
def outM (c : Dev nD) (b : Fin 2) (s : Fin 8192) (n : Fin 1024) : EReal :=
  outG (fun b s k => m ((c : Thread nD τ).loc main_arg0) (ix3 b s k)) (fun k => m ((c : Thread nD τ).loc main_arg1) (ix2 (0 : Fin 1) k))
    (fun k q => m ((c : Thread nD τ).loc main_arg2) (ix3 (0 : Fin 1) k q)) (fun j q => m ((c : Thread nD τ).loc main_arg3) (ix3 (0 : Fin 1) j q))
    (fun q => m ((c : Thread nD τ).loc main_arg4) (ix2 (0 : Fin 1) q)) (fun f n => m ((c : Thread nD τ).loc main_arg5) (ix3 (0 : Fin 1) f n))
    (fun n => m ((c : Thread nD τ).loc main_arg6) (ix2 (0 : Fin 1) n)) b s n

theorem point_eq (c : Dev nD) (t : Fin cfg0.N) (r : Fin 512) (n : Fin 1024) :
    (outsAt0 m c t.val t.isLt).1 (ix3 (0 : Fin 1) r n) = outM m c (bOf t) (rowOf (tOf t) r) n := by
  by_cases ht : t.val % 16 = 0
  · rw [out_A m c t ht]
    exact out_tile (blk0 m c t) (blk1 m c t) (blk2 m c t) (blk3 m c t) (blk4 m c t) (blk5 m c t) (blk6 m c t)
      (zero_tile ht) r n
  · rw [out_B m c t ht]
    refine out_tile (blk0 m c t) (blk1 m c t) (blk2 m c t) (blk3 m c t) (blk4 m c t) (blk5 m c t) (blk6 m c t) ?_ r n
    have hl : t.val - 1 < cfg0.N := lt_of_le_of_lt (Nat.sub_le _ _) t.isLt
    have hh : (outsAt0 m c (t.val - 1) hl).2
        = haloV (k0_pay3 (F := Ideal) (iblk m c 0 ⟨t.val - 1, hl⟩) (iblk m c 1 ⟨t.val - 1, hl⟩)) (iblk m c 2 ⟨t.val - 1, hl⟩) := by
      by_cases hp : (t.val - 1) % 16 = 0
      · exact halo_A m c ⟨t.val - 1, hl⟩ hp
      · exact halo_B m c ⟨t.val - 1, hl⟩ hp
    have eb : bOf ⟨t.val - 1, hl⟩ = bOf t := Fin.ext (by show (t.val - 1) / 16 = t.val / 16; omega)
    intro i q
    have e := halo_tile (ti := tOf ⟨t.val - 1, hl⟩) (b := bOf ⟨t.val - 1, hl⟩) (x := iblk m c 0 ⟨t.val - 1, hl⟩) (X := fun b s k => m ((c : Thread nD τ).loc main_arg0) (ix3 b s k)) (G := fun k => m ((c : Thread nD τ).loc main_arg1) (ix2 (0 : Fin 1) k)) (Wu := fun k q => m ((c : Thread nD τ).loc main_arg2) (ix3 (0 : Fin 1) k q)) (blk0 m c ⟨t.val - 1, hl⟩) (blk1 m c ⟨t.val - 1, hl⟩) (blk2 m c ⟨t.val - 1, hl⟩) (tOf t)
      (by show t.val % 16 = (t.val - 1) % 16 + 1; omega) i q
    rw [eb] at e
    exact (congrFun hh (ix2 i q)).trans e

theorem result_eq (c : Dev nD) (i : S2x8192x1024.Idx) : G7 m c i = outM m c (i 0) (i 1) (i 2) := by
  have h0 : (i 0).val < 2 := (i 0).isLt
  have h1 : (i 1).val < 8192 := (i 1).isLt
  have h2 : (i 2).val < 1024 := (i 2).isLt
  have hp : pt7Of i < cfg0.N := lt_of_lt_of_eq (by show 16 * ((i 0).val / 1 - 0) + 1 * ((i 1).val / 512 - 0) + 1 * ((i 2).val / 1024 - 0) < 32; omega) N_0.symm
  unfold G7
  rw [dif_pos hp]
  have e := point_eq m c ⟨pt7Of i, hp⟩ ⟨(i 1).val % 512, Nat.mod_lt _ (by decide)⟩ (i 2)
  rw [outsAt0_sweep] at e
  have el : loc7Of i = ix3 (0 : Fin 1) (⟨(i 1).val % 512, Nat.mod_lt _ (by decide)⟩ : Fin 512) (i 2 : Fin 1024) := by
    funext a
    match a with
    | ⟨0, _⟩ => exact Fin.ext (Nat.mod_one _)
    | ⟨1, _⟩ => rfl
    | ⟨2, _⟩ => exact Fin.ext (Nat.mod_eq_of_lt h2)
  have eb : bOf ⟨pt7Of i, hp⟩ = i 0 := Fin.ext (by
    show (16 * ((i 0).val / 1 - 0) + 1 * ((i 1).val / 512 - 0) + 1 * ((i 2).val / 1024 - 0)) / 16 = (i 0).val; omega)
  have es : rowOf (tOf ⟨pt7Of i, hp⟩) ⟨(i 1).val % 512, Nat.mod_lt _ (by decide)⟩ = i 1 := Fin.ext (by
    show (16 * ((i 0).val / 1 - 0) + 1 * ((i 1).val / 512 - 0) + 1 * ((i 2).val / 1024 - 0)) % 16 * 512 + (i 1).val % 512 = (i 1).val; omega)
  rw [eb, es] at e
  rw [el]
  exact e

end Cert.Ffn
-- ==== Proof.RefSide.lean ====
module

public import proofs.«01_k».proof.Proof.Spec
public import proofs.«01_k».proof.Proof.Gen.Reference2Ideal.Read

@[expose] public section

/-!
# The reference at one element of the result

The reference read operation by operation, each at an element, is the layer of `Spec.lean`. The two differ in the order in
which the three products and the bias of the convolution are added, and in the order of the factors of a cube.
-/

set_option maxRecDepth 16384

noncomputable section

namespace Cert.Ffn.Ref

open Idealize.ShloMosaic Idealize.ShloMosaic.TcCoe Idealize.SL.Sem
open Cert.Reference2Ideal Cert.Reference2Ideal.Gen Cert.Reference2Ideal.Read

variable (x0 : (⟨S2x8192x1024, .f32⟩ : BufTy).Contents (Elt Ideal)) (x1 : (⟨S1x1024, .f32⟩ : BufTy).Contents (Elt Ideal))
  (x2 : (⟨S1x1024x5632, .f32⟩ : BufTy).Contents (Elt Ideal)) (x3 : (⟨S1x3x5632, .f32⟩ : BufTy).Contents (Elt Ideal))
  (x4 : (⟨S1x5632, .f32⟩ : BufTy).Contents (Elt Ideal)) (x5 : (⟨S1x2816x1024, .f32⟩ : BufTy).Contents (Elt Ideal))
  (x6 : (⟨S1x1024, .f32⟩ : BufTy).Contents (Elt Ideal))

/-- The arguments as functions of their coordinates. -/
def rX (b : Fin 2) (s : Fin 8192) (k : Fin 1024) : EReal := x0 (ix3 b s k)
def rG (k : Fin 1024) : EReal := x1 (ix2 (0 : Fin 1) k)
def rWu (k : Fin 1024) (q : Fin 5632) : EReal := x2 (ix3 (0 : Fin 1) k q)
def rCw (j : Fin 3) (q : Fin 5632) : EReal := x3 (ix3 (0 : Fin 1) j q)
def rCb (q : Fin 5632) : EReal := x4 (ix2 (0 : Fin 1) q)
def rWd (f : Fin 2816) (n : Fin 1024) : EReal := x5 (ix3 (0 : Fin 1) f n)

theorem norm_eq (b : Fin 2) (s : Fin 8192) (k : Fin 1024) :
    val_main_v13 (F := Ideal) x0 x1 (ix3 b s k) = normG (rX x0 b s) (rG x1) k := by
  unfold val_main_v13 val_main_v10 val_main_v9 val_main_v8 val_main_v7 val_main_v5 val_main_v3 val_main_v2 val_main_v1
    val_main_v12 val_main_v11 val_main_v0 val_main_v4 val_main_v6 val_main_cst val_main_cst_0 val_main_cst_1
  pointwise [normG, rX, rG]

theorem up_eq (b : Fin 2) (s : Fin 8192) (q : Fin 5632) :
    val_main_v15 (F := Ideal) x0 x1 x2 (ix3 b s q) = upG (rX x0) (rG x1) (rWu x2) b s q := by
  have e := norm_eq x0 x1
  unfold val_main_v15 val_main_v14
  generalize val_main_v13 (F := Ideal) x0 x1 = h at e ⊢
  pointwise [upG, rWu]
  simp only [e]

theorem pad_eq (b : Fin 2) (s : Fin 8194) (q : Fin 5632) :
    val_main_v18 (F := Ideal) x0 x1 x2 (ix3 b s q)
      = if h : 2 ≤ s.val then upG (rX x0) (rG x1) (rWu x2) b ⟨s.val - 2, by omega⟩ q else 0 := by
  have e := up_eq x0 x1 x2
  unfold val_main_v18 val_main_call0_v0 val_main_c
  generalize val_main_v15 (F := Ideal) x0 x1 x2 = u at e ⊢
  pointwise []
  have hz : FloatOps.sitofp (F := Ideal) FTy.f32 (0#32 : BitVec 32) = (0 : EReal) := by
    show (((0#32 : BitVec 32).toInt : ℝ) : EReal) = 0
    simp
  by_cases h : 2 ≤ s.val
  · rw [dif_pos ⟨h, by omega⟩, dif_pos h, e]
  · rw [dif_neg (fun h' => h h'.1), dif_neg h, hz]

theorem conv_eq (b : Fin 2) (s : Fin 8192) (q : Fin 5632) :
    val_main_v43 (F := Ideal) x0 x1 x2 x3 x4 (ix3 b s q)
      = convG (rX x0) (rG x1) (rWu x2) (rCw x3) (rCb x4) b s q := by
  have e := pad_eq x0 x1 x2
  unfold val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26
    val_main_v25 val_main_v24 val_main_v23 val_main_v22 val_main_v21 val_main_v20 val_main_v19 val_main_v16 val_main_v17 val_main_cst_2
  generalize val_main_v18 (F := Ideal) x0 x1 x2 = u at e ⊢
  pointwise [convG, rCw, rCb]
  have e0 : u (ix3 b (⟨s.val, by omega⟩ : Fin 8194) q) = backG (rX x0) (rG x1) (rWu x2) 2 b s q := by
    rw [e]; rfl
  have e1 : u (ix3 b (⟨1 + s.val, by omega⟩ : Fin 8194) q) = backG (rX x0) (rG x1) (rWu x2) 1 b s q := by
    rw [e]
    unfold backG
    by_cases h : 1 ≤ s.val
    · rw [dif_pos (show 2 ≤ 1 + s.val by omega), if_pos h]
      exact congrArg (fun s => upG (rX x0) (rG x1) (rWu x2) b s q) (Fin.ext (by show 1 + s.val - 2 = s.val - 1; omega))
    · rw [dif_neg (show ¬ 2 ≤ 1 + s.val by omega), if_neg h]
  have e2 : u (ix3 b (⟨2 + s.val, by omega⟩ : Fin 8194) q) = upG (rX x0) (rG x1) (rWu x2) b s q := by
    rw [e, dif_pos (show 2 ≤ 2 + s.val by omega)]
    exact congrArg (fun s => upG (rX x0) (rG x1) (rWu x2) b s q) (Fin.ext (by show 2 + s.val - 2 = s.val; omega))
  rw [e0, e1, e2]
  have hac : ∀ a b c d : EReal, a + b + c + d = c + d + a + b := fun a b c d => by ac_rfl
  exact hac _ _ _ _

theorem act_eq (b : Fin 2) (s : Fin 8192) (f : Fin 2816) :
    val_main_v59 (F := Ideal) x0 x1 x2 x3 x4 (ix3 b s f)
      = actS (convG (rX x0) (rG x1) (rWu x2) (rCw x3) (rCb x4) b s ⟨f.val, by omega⟩)
          (convG (rX x0) (rG x1) (rWu x2) (rCw x3) (rCb x4) b s ⟨2816 + f.val, by omega⟩) := by
  have e := conv_eq x0 x1 x2 x3 x4
  unfold val_main_v59 val_main_v58 val_main_v57 val_main_v56 val_main_v55 val_main_v54 val_main_v53 val_main_v52 val_main_v51
    val_main_v50 val_main_v49 val_main_v48 val_main_v47 val_main_v46 val_main_v45 val_main_v44
    val_main_cst_3 val_main_cst_4 val_main_cst_5 val_main_cst_6
  generalize val_main_v43 (F := Ideal) x0 x1 x2 x3 x4 = u at e ⊢
  pointwise [actS]
  simp only [e, mul_assoc]

theorem down_eq (b : Fin 2) (s : Fin 8192) (n : Fin 1024) :
    val_main_v61 (F := Ideal) x0 x1 x2 x3 x4 x5 (ix3 b s n)
      = downG (rX x0) (rG x1) (rWu x2) (rCw x3) (rCb x4) (rWd x5) b s n := by
  have e := act_eq x0 x1 x2 x3 x4
  unfold val_main_v61 val_main_v60
  generalize val_main_v59 (F := Ideal) x0 x1 x2 x3 x4 = u at e ⊢
  pointwise [downG, rWd]
  simp only [e]

theorem out_eq (b : Fin 2) (s : Fin 8192) (n : Fin 1024) :
    val_main_v76 (F := Ideal) x0 x1 x2 x3 x4 x5 x6 (ix3 b s n)
      = outG (rX x0) (rG x1) (rWu x2) (rCw x3) (rCb x4) (rWd x5) (rG x6) b s n := by
  have e := down_eq x0 x1 x2 x3 x4 x5
  unfold val_main_v76 val_main_v75 val_main_v74 val_main_v73 val_main_v72 val_main_v71 val_main_v70 val_main_v69 val_main_v68
    val_main_v67 val_main_v66 val_main_v65 val_main_v64 val_main_v63 val_main_v62 val_main_cst_7 val_main_cst_8 val_main_cst_9
  generalize val_main_v61 (F := Ideal) x0 x1 x2 x3 x4 x5 = u at e ⊢
  pointwise [outG, normG, rX, rG]
  simp only [e]

end Cert.Ffn.Ref
-- ==== Proof.Glue.lean ====
module

public import Idealize.ShloMosaic.Lib.Pipeline.ValueKit
public import Idealize.ShloMosaic.Lib.Pipeline.ReadBack
public import Idealize.ShloMosaic.Lib.Writes
public import Idealize.ShloMosaic.Lib.Pointwise

@[expose] public section

/-!
# A buffer that is written column block by column block and then read whole

The branches' results, and the merged rows, are stored 128 or 256 columns at a time, and the product that follows reads all
1024.  `glue4` and `glue8` are what it reads.  `halfV` is what is read when a stored slab of 256 columns is taken up 128 columns
at a time.
-/

set_option maxRecDepth 16384

noncomputable section

namespace Cert.Glue

open Idealize.ShloMosaic Idealize.ShloMosaic.TcCoe Idealize.SL.Sem

/-- Four blocks of 256 columns side by side. -/
def glue4 {V : Type} (P : Fin 4 → (⟨2, ![512, 256]⟩ : Shape).Idx → V) (j : (⟨2, ![512, 1024]⟩ : Shape).Idx) : V :=
  P ⟨(j 1).val / 256, by have : (j 1).val < 1024 := (j 1).isLt; omega⟩
    (ix2 (j 0 : Fin 512) (⟨(j 1).val % 256, Nat.mod_lt _ (by decide)⟩ : Fin 256))

/-- Eight blocks of 128 columns side by side. -/
def glue8 {V : Type} (P : Fin 8 → (⟨2, ![512, 128]⟩ : Shape).Idx → V) (j : (⟨2, ![512, 1024]⟩ : Shape).Idx) : V :=
  P ⟨(j 1).val / 128, by have : (j 1).val < 1024 := (j 1).isLt; omega⟩
    (ix2 (j 0 : Fin 512) (⟨(j 1).val % 128, Nat.mod_lt _ (by decide)⟩ : Fin 128))

/-- 128 of the 256 columns of a slab, from column `o` on. -/
def halfV {V : Type} (o : ℕ) (ho : o + 128 ≤ 256) (P : (⟨3, ![1, 512, 256]⟩ : Shape).Idx → V) (j : (⟨3, ![1, 512, 128]⟩ : Shape).Idx) : V :=
  P (ix3 (0 : Fin 1) (j 1 : Fin 512) (⟨o + (j 2).val, by have : (j 2).val < 128 := (j 2).isLt; omega⟩ : Fin 256))

theorem glue4_at {V : Type} (P : Fin 4 → (⟨2, ![512, 256]⟩ : Shape).Idx → V) (k : Fin 4) (x : (⟨2, ![512, 256]⟩ : Shape).Idx)
    (y : (⟨2, ![512, 1024]⟩ : Shape).Idx) (h0 : (y 0).val = (x 0).val) (h1 : (y 1).val = 256 * k.val + (x 1).val) :
    P k x = glue4 P y := by
  have hx : (x 1).val < 256 := (x 1).isLt
  have ek : (⟨(y 1).val / 256, by have : (y 1).val < 1024 := (y 1).isLt; omega⟩ : Fin 4) = k := Fin.ext (by show (y 1).val / 256 = k.val; omega)
  have ex : (ix2 (y 0 : Fin 512) (⟨(y 1).val % 256, Nat.mod_lt _ (by decide)⟩ : Fin 256)) = x :=
    funext (Fin.forall_fin_two.2 ⟨Fin.ext h0, Fin.ext (by show (y 1).val % 256 = (x 1).val; omega)⟩)
  unfold glue4
  rw [ek]
  exact congrArg (P k) ex.symm

theorem glue8_at {V : Type} (P : Fin 8 → (⟨2, ![512, 128]⟩ : Shape).Idx → V) (k : Fin 8) (x : (⟨2, ![512, 128]⟩ : Shape).Idx)
    (y : (⟨2, ![512, 1024]⟩ : Shape).Idx) (h0 : (y 0).val = (x 0).val) (h1 : (y 1).val = 128 * k.val + (x 1).val) :
    P k x = glue8 P y := by
  have hx : (x 1).val < 128 := (x 1).isLt
  have ek : (⟨(y 1).val / 128, by have : (y 1).val < 1024 := (y 1).isLt; omega⟩ : Fin 8) = k := Fin.ext (by show (y 1).val / 128 = k.val; omega)
  have ex : (ix2 (y 0 : Fin 512) (⟨(y 1).val % 128, Nat.mod_lt _ (by decide)⟩ : Fin 128)) = x :=
    funext (Fin.forall_fin_two.2 ⟨Fin.ext h0, Fin.ext (by show (y 1).val % 128 = (x 1).val; omega)⟩)
  unfold glue8
  rw [ek]
  exact congrArg (P k) ex.symm

variable {sig : RefSig} {κ : Kind} {sp : Space} {e : EltTy} {Val : EltTy → Type} [∀ e, Nonempty (Val e)]

theorem mem_cols (o w : ℕ) (i : ∀ a, (![0, o] : Fin 2 → ℕ) a + (![512, w] : Fin 2 → ℕ) a ≤ (⟨2, ![512, 1024]⟩ : Shape).size a)
    (j : (⟨2, ![512, 1024]⟩ : Shape).Idx) (h0 : o ≤ (j 1).val) (h1 : (j 1).val < o + w) :
    j ∈ (Rect.unit (s := (⟨2, ![512, 1024]⟩ : Shape)) ![0, o] ![512, w] i).set :=
  Rect.mem_set_unit.mpr (Fin.forall_fin_two.2 ⟨⟨Nat.zero_le _, lt_of_lt_of_eq (j 0).isLt (Nat.zero_add 512).symm⟩, ⟨h0, h1⟩⟩)

/-- Four blocks stored, the whole read. -/
theorem read_glue4 (v : View sig κ sp (⟨2, ![512, 1024]⟩ : Shape) e)
    (P0 P1 P2 P3 : (⟨2, ![512, 256]⟩ : Shape).Idx → Val e)
    (i0 : ∀ a, (![0, 0] : Fin 2 → ℕ) a + (![512, 256] : Fin 2 → ℕ) a ≤ (⟨2, ![512, 1024]⟩ : Shape).size a)
    (i1 : ∀ a, (![0, 256] : Fin 2 → ℕ) a + (![512, 256] : Fin 2 → ℕ) a ≤ (⟨2, ![512, 1024]⟩ : Shape).size a)
    (i2 : ∀ a, (![0, 512] : Fin 2 → ℕ) a + (![512, 256] : Fin 2 → ℕ) a ≤ (⟨2, ![512, 1024]⟩ : Shape).size a)
    (i3 : ∀ a, (![0, 768] : Fin 2 → ℕ) a + (![512, 256] : Fin 2 → ℕ) a ≤ (⟨2, ![512, 1024]⟩ : Shape).size a)
    (iw : ∀ a, (![0, 0] : Fin 2 → ℕ) a + (![512, 1024] : Fin 2 → ℕ) a ≤ (⟨2, ![512, 1024]⟩ : Shape).size a) :
    v.readCov [⟨Rect.unit (s := (⟨2, ![512, 1024]⟩ : Shape)) ![0, 768] ![512, 256] i3, P3⟩,
        ⟨Rect.unit (s := (⟨2, ![512, 1024]⟩ : Shape)) ![0, 512] ![512, 256] i2, P2⟩,
        ⟨Rect.unit (s := (⟨2, ![512, 1024]⟩ : Shape)) ![0, 256] ![512, 256] i1, P1⟩,
        ⟨Rect.unit (s := (⟨2, ![512, 1024]⟩ : Shape)) ![0, 0] ![512, 256] i0, P0⟩]
      (Rect.toLoadRect (Rect.unit (s := (⟨2, ![512, 1024]⟩ : Shape)) ![0, 0] ![512, 1024] iw))
      = glue4 ![P0, P1, P2, P3] := by
  rw [View.readCov_eq_canon']
  funext j
  have ej : LoadRect.idx (Rect.toLoadRect (Rect.unit (s := (⟨2, ![512, 1024]⟩ : Shape)) ![0, 0] ![512, 1024] iw)) j = j :=
    funext (Fin.forall_fin_two.2 ⟨Fin.ext (by show 0 + 1 * (j 0).val = (j 0).val; omega), Fin.ext (by show 0 + 1 * (j 1).val = (j 1).val; omega)⟩)
  show View.canon _ (LoadRect.idx (Rect.toLoadRect (Rect.unit (s := (⟨2, ![512, 1024]⟩ : Shape)) ![0, 0] ![512, 1024] iw)) j) = _
  rw [ej]
  clear ej
  change (⟨2, ![512, 1024]⟩ : Shape).Idx at j
  have hj : (j 1).val < 1024 := (j 1).isLt
  canon_tiles x h using (by
    rcases (show 768 ≤ (j 1).val ∧ (j 1).val < 768 + 256 ∨ 512 ≤ (j 1).val ∧ (j 1).val < 512 + 256 ∨ 256 ≤ (j 1).val ∧ (j 1).val < 256 + 256 ∨ 0 ≤ (j 1).val ∧ (j 1).val < 0 + 256 by omega) with hk | hk | hk | hk
    · exact ⟨_, List.Mem.head _, mem_cols _ _ i3 j hk.1 hk.2⟩
    · exact ⟨_, List.Mem.tail _ (List.Mem.head _), mem_cols _ _ i2 j hk.1 hk.2⟩
    · exact ⟨_, List.Mem.tail _ (List.Mem.tail _ (List.Mem.head _)), mem_cols _ _ i1 j hk.1 hk.2⟩
    · exact ⟨_, List.Mem.tail _ (List.Mem.tail _ (List.Mem.tail _ (List.Mem.head _))), mem_cols _ _ i0 j hk.1 hk.2⟩)
  · exact glue4_at ![P0, P1, P2, P3] 3 x j h0 h1
  · exact glue4_at ![P0, P1, P2, P3] 2 x j h0 h1
  · exact glue4_at ![P0, P1, P2, P3] 1 x j h0 h1
  · exact glue4_at ![P0, P1, P2, P3] 0 x j h0 (h1.trans (by show _ = 256 * 0 + _; omega))

/-- Eight blocks stored, the whole read. -/
theorem read_glue8 (v : View sig κ sp (⟨2, ![512, 1024]⟩ : Shape) e)
    (P0 P1 P2 P3 P4 P5 P6 P7 : (⟨2, ![512, 128]⟩ : Shape).Idx → Val e)
    (i0 : ∀ a, (![0, 0] : Fin 2 → ℕ) a + (![512, 128] : Fin 2 → ℕ) a ≤ (⟨2, ![512, 1024]⟩ : Shape).size a)
    (i1 : ∀ a, (![0, 128] : Fin 2 → ℕ) a + (![512, 128] : Fin 2 → ℕ) a ≤ (⟨2, ![512, 1024]⟩ : Shape).size a)
    (i2 : ∀ a, (![0, 256] : Fin 2 → ℕ) a + (![512, 128] : Fin 2 → ℕ) a ≤ (⟨2, ![512, 1024]⟩ : Shape).size a)
    (i3 : ∀ a, (![0, 384] : Fin 2 → ℕ) a + (![512, 128] : Fin 2 → ℕ) a ≤ (⟨2, ![512, 1024]⟩ : Shape).size a)
    (i4 : ∀ a, (![0, 512] : Fin 2 → ℕ) a + (![512, 128] : Fin 2 → ℕ) a ≤ (⟨2, ![512, 1024]⟩ : Shape).size a)
    (i5 : ∀ a, (![0, 640] : Fin 2 → ℕ) a + (![512, 128] : Fin 2 → ℕ) a ≤ (⟨2, ![512, 1024]⟩ : Shape).size a)
    (i6 : ∀ a, (![0, 768] : Fin 2 → ℕ) a + (![512, 128] : Fin 2 → ℕ) a ≤ (⟨2, ![512, 1024]⟩ : Shape).size a)
    (i7 : ∀ a, (![0, 896] : Fin 2 → ℕ) a + (![512, 128] : Fin 2 → ℕ) a ≤ (⟨2, ![512, 1024]⟩ : Shape).size a)
    (iw : ∀ a, (![0, 0] : Fin 2 → ℕ) a + (![512, 1024] : Fin 2 → ℕ) a ≤ (⟨2, ![512, 1024]⟩ : Shape).size a) :
    v.readCov [⟨Rect.unit (s := (⟨2, ![512, 1024]⟩ : Shape)) ![0, 896] ![512, 128] i7, P7⟩,
        ⟨Rect.unit (s := (⟨2, ![512, 1024]⟩ : Shape)) ![0, 768] ![512, 128] i6, P6⟩,
        ⟨Rect.unit (s := (⟨2, ![512, 1024]⟩ : Shape)) ![0, 640] ![512, 128] i5, P5⟩,
        ⟨Rect.unit (s := (⟨2, ![512, 1024]⟩ : Shape)) ![0, 512] ![512, 128] i4, P4⟩,
        ⟨Rect.unit (s := (⟨2, ![512, 1024]⟩ : Shape)) ![0, 384] ![512, 128] i3, P3⟩,
        ⟨Rect.unit (s := (⟨2, ![512, 1024]⟩ : Shape)) ![0, 256] ![512, 128] i2, P2⟩,
        ⟨Rect.unit (s := (⟨2, ![512, 1024]⟩ : Shape)) ![0, 128] ![512, 128] i1, P1⟩,
        ⟨Rect.unit (s := (⟨2, ![512, 1024]⟩ : Shape)) ![0, 0] ![512, 128] i0, P0⟩]
      (Rect.toLoadRect (Rect.unit (s := (⟨2, ![512, 1024]⟩ : Shape)) ![0, 0] ![512, 1024] iw))
      = glue8 ![P0, P1, P2, P3, P4, P5, P6, P7] := by
  rw [View.readCov_eq_canon']
  funext j
  have ej : LoadRect.idx (Rect.toLoadRect (Rect.unit (s := (⟨2, ![512, 1024]⟩ : Shape)) ![0, 0] ![512, 1024] iw)) j = j :=
    funext (Fin.forall_fin_two.2 ⟨Fin.ext (by show 0 + 1 * (j 0).val = (j 0).val; omega), Fin.ext (by show 0 + 1 * (j 1).val = (j 1).val; omega)⟩)
  show View.canon _ (LoadRect.idx (Rect.toLoadRect (Rect.unit (s := (⟨2, ![512, 1024]⟩ : Shape)) ![0, 0] ![512, 1024] iw)) j) = _
  rw [ej]
  clear ej
  change (⟨2, ![512, 1024]⟩ : Shape).Idx at j
  have hj : (j 1).val < 1024 := (j 1).isLt
  canon_tiles x h using (by
    rcases (show 896 ≤ (j 1).val ∧ (j 1).val < 896 + 128 ∨ 768 ≤ (j 1).val ∧ (j 1).val < 768 + 128 ∨ 640 ≤ (j 1).val ∧ (j 1).val < 640 + 128 ∨ 512 ≤ (j 1).val ∧ (j 1).val < 512 + 128 ∨ 384 ≤ (j 1).val ∧ (j 1).val < 384 + 128 ∨ 256 ≤ (j 1).val ∧ (j 1).val < 256 + 128 ∨ 128 ≤ (j 1).val ∧ (j 1).val < 128 + 128 ∨ 0 ≤ (j 1).val ∧ (j 1).val < 0 + 128 by omega) with hk | hk | hk | hk | hk | hk | hk | hk
    · exact ⟨_, List.Mem.head _, mem_cols _ _ i7 j hk.1 hk.2⟩
    · exact ⟨_, List.Mem.tail _ (List.Mem.head _), mem_cols _ _ i6 j hk.1 hk.2⟩
    · exact ⟨_, List.Mem.tail _ (List.Mem.tail _ (List.Mem.head _)), mem_cols _ _ i5 j hk.1 hk.2⟩
    · exact ⟨_, List.Mem.tail _ (List.Mem.tail _ (List.Mem.tail _ (List.Mem.head _))), mem_cols _ _ i4 j hk.1 hk.2⟩
    · exact ⟨_, List.Mem.tail _ (List.Mem.tail _ (List.Mem.tail _ (List.Mem.tail _ (List.Mem.head _)))), mem_cols _ _ i3 j hk.1 hk.2⟩
    · exact ⟨_, List.Mem.tail _ (List.Mem.tail _ (List.Mem.tail _ (List.Mem.tail _ (List.Mem.tail _ (List.Mem.head _))))), mem_cols _ _ i2 j hk.1 hk.2⟩
    · exact ⟨_, List.Mem.tail _ (List.Mem.tail _ (List.Mem.tail _ (List.Mem.tail _ (List.Mem.tail _ (List.Mem.tail _ (List.Mem.head _)))))), mem_cols _ _ i1 j hk.1 hk.2⟩
    · exact ⟨_, List.Mem.tail _ (List.Mem.tail _ (List.Mem.tail _ (List.Mem.tail _ (List.Mem.tail _ (List.Mem.tail _ (List.Mem.tail _ (List.Mem.head _))))))), mem_cols _ _ i0 j hk.1 hk.2⟩)
  · exact glue8_at ![P0, P1, P2, P3, P4, P5, P6, P7] 7 x j h0 h1
  · exact glue8_at ![P0, P1, P2, P3, P4, P5, P6, P7] 6 x j h0 h1
  · exact glue8_at ![P0, P1, P2, P3, P4, P5, P6, P7] 5 x j h0 h1
  · exact glue8_at ![P0, P1, P2, P3, P4, P5, P6, P7] 4 x j h0 h1
  · exact glue8_at ![P0, P1, P2, P3, P4, P5, P6, P7] 3 x j h0 h1
  · exact glue8_at ![P0, P1, P2, P3, P4, P5, P6, P7] 2 x j h0 h1
  · exact glue8_at ![P0, P1, P2, P3, P4, P5, P6, P7] 1 x j h0 h1
  · exact glue8_at ![P0, P1, P2, P3, P4, P5, P6, P7] 0 x j h0 (h1.trans (by show _ = 128 * 0 + _; omega))

/-- A slab stored, half of its columns read. -/
theorem read_half (v : View sig κ sp (⟨3, ![2, 512, 256]⟩ : Shape) e) (p o : ℕ) (ho : o + 128 ≤ 256)
    (P : (⟨3, ![1, 512, 256]⟩ : Shape).Idx → Val e) (L : List (View.Piece Val (⟨3, ![2, 512, 256]⟩ : Shape) e))
    (i0 : ∀ a, (![p, 0, 0] : Fin 3 → ℕ) a + (![1, 512, 256] : Fin 3 → ℕ) a ≤ (⟨3, ![2, 512, 256]⟩ : Shape).size a)
    (i1 : ∀ a, (![p, 0, o] : Fin 3 → ℕ) a + (![1, 512, 128] : Fin 3 → ℕ) a ≤ (⟨3, ![2, 512, 256]⟩ : Shape).size a) :
    v.readCov (⟨Rect.unit (s := (⟨3, ![2, 512, 256]⟩ : Shape)) ![p, 0, 0] ![1, 512, 256] i0, P⟩ :: L)
      (Rect.toLoadRect (Rect.unit (s := (⟨3, ![2, 512, 256]⟩ : Shape)) ![p, 0, o] ![1, 512, 128] i1))
      = halfV o ho P := by
  rw [View.readCov_eq_canon']
  funext j
  have b0 : (j 0).val = 0 := by have : (j 0).val < 1 := (j 0).isLt; omega
  have b2 : (j 2).val < 128 := (j 2).isLt
  refine (congrArg _ (Rect.emb_eq_of_coords (Rect.unit (s := (⟨3, ![2, 512, 256]⟩ : Shape)) ![p, 0, 0] ![1, 512, 256] i0)
    (ix3 (0 : Fin 1) (j 1 : Fin 512) (⟨o + (j 2).val, by omega⟩ : Fin 256)) _ ?_).symm).trans
    (View.canon_cons_emb (Rect.unit (s := (⟨3, ![2, 512, 256]⟩ : Shape)) ![p, 0, 0] ![1, 512, 256] i0) P L
      (ix3 (0 : Fin 1) (j 1 : Fin 512) (⟨o + (j 2).val, by omega⟩ : Fin 256)))
  intro a
  fin_cases a
  · show p + 1 * (j 0).val = p + 1 * 0; omega
  · show 0 + 1 * (j 1).val = 0 + 1 * (j 1).val; rfl
  · show o + 1 * (j 2).val = 0 + 1 * (o + (j 2).val); omega

end Cert.Glue
-- ==== Proof.TailTile.lean ====
module

public import proofs.«01_k».proof.Proof.Glue
public import proofs.«01_k».proof.Proof.Gen.Kernel3Ideal.Value

@[expose] public section

/-!
# What one grid point of the mixer's last part computes, as one vector function

A grid point takes 512 rows, normalises them, projects them onto the four sections of the input projection that are used here,
in blocks of 256 columns, and goes from the two recurrences' results to the mixer's.  The functions here are the vector
operations of a block and of the point; the theorem says that the block the point stores is `outV` of its input blocks.
-/

set_option maxRecDepth 16384

noncomputable section

namespace Cert.Tail

open Idealize.ShloMosaic Idealize.ShloMosaic.TcCoe Idealize.SL.Sem
open Cert.Kernel3Ideal Cert.Kernel3Ideal.Gen Cert.Glue

theorem wi_inb (o : ℕ) (ho : o + 256 ≤ 8192) : ∀ a, (![0, o] : Fin 2 → ℕ) a + (![1024, 256] : Fin 2 → ℕ) a ≤ S1024x8192.size a :=
  Fin.forall_fin_two.2 ⟨Nat.le_refl 1024, ho⟩
theorem wb_inb (o : ℕ) (ho : o + 256 ≤ 1024) : ∀ a, (![0, o] : Fin 2 → ℕ) a + (![1024, 256] : Fin 2 → ℕ) a ≤ S1024x1024.size a :=
  Fin.forall_fin_two.2 ⟨Nat.le_refl 1024, ho⟩
theorem hg_inb (o : ℕ) (ho : o + 256 ≤ 1024) : ∀ a, (![0, o] : Fin 2 → ℕ) a + (![1, 256] : Fin 2 → ℕ) a ≤ S1x1024.size a :=
  Fin.forall_fin_two.2 ⟨Nat.le_refl 1, ho⟩
theorem hs_inb (o : ℕ) (ho : o + 128 ≤ 1024) : ∀ a, (![0, 0, o] : Fin 3 → ℕ) a + (![1, 512, 128] : Fin 3 → ℕ) a ≤ S1x512x1024.size a :=
  fun a => match a with
    | ⟨0, _⟩ => Nat.le_refl 1
    | ⟨1, _⟩ => Nat.le_refl 512
    | ⟨2, _⟩ => ho
theorem ob_inb (o : ℕ) (ho : o + 256 ≤ 1024) : ∀ a, (![0, 0, o] : Fin 3 → ℕ) a + (![1, 512, 256] : Fin 3 → ℕ) a ≤ S1x512x1024.size a :=
  fun a => match a with
    | ⟨0, _⟩ => Nat.le_refl 1
    | ⟨1, _⟩ => Nat.le_refl 512
    | ⟨2, _⟩ => ho

/-- The product of 512 rows with 256 columns. -/
def secM (h : Vec Ideal S512x1024 .bf16) (w : Vec Ideal S1024x256 .bf16) : FVec Ideal S512x256 .f32 :=
  matmul (φ₁ := .bf16) (φ₂ := .bf16) dot_S512x1024_S1024x256_S512x256_1_0_0_1_n_n none h w (constant S512x256 .f32 0x00000000#32)

/-- 256 columns, from `o` on, of the input projection of the normalised rows `h`. -/
def secV (h : FVec Ideal S512x1024 .bf16) (wi : Vec Ideal S1024x8192 .bf16) (o : ℕ) (ho : o + 256 ≤ 8192) : FVec Ideal S512x256 .f32 :=
  secM h (View.ld wi (Rect.unit (s := S1024x8192) ![0, o] ![1024, 256] (wi_inb o ho)))

/-- The tanh form of gelu. -/
def geluV (p : FVec Ideal S512x256 .f32) : FVec Ideal S512x256 .f32 :=
  mulf p (mulf (broadcast S512x256 (FloatOps.ofBits .f32 0x3F000000#32))
    (addf (broadcast S512x256 (FloatOps.ofBits .f32 0x3F800000#32))
      (tanh (mulf (broadcast S512x256 (FloatOps.ofBits .f32 0x3F4C422A#32))
        (addf p (mulf (broadcast S512x256 (FloatOps.ofBits .f32 0x3D372713#32)) (mulf p (mulf p p))))))))

/-- The gelu of a product, as the slab that holds it. -/
def gaM (p : FVec Ideal S512x256 .f32) : FVec Ideal S1x512x256 .f32 := shapeCast S1x512x256 (geluV p) shapeCasts_S512x256_S1x512x256

section pays
variable (h : Vec Ideal S512x1024 .bf16) (w wb : Vec Ideal S1024x256 .bf16) (u v : Vec Ideal S1x512x128 .f32) (p q : FVec Ideal S512x256 .f32)
  (o : Vec Ideal S1x512x256 .f32) (g : Vec Ideal S1x256 .f32) (ya yb : Vec Ideal S512x1024 .bf16)

theorem e6 : k0_pay6 (F := Ideal) h w = secM h w := by
  simp only [k0_pay6, secM, shapeCast_self]

theorem e8 : k0_pay8 (F := Ideal) h w = secM h w := by
  simp only [k0_pay8, secM, shapeCast_self]

theorem e9 : k0_pay9 (F := Ideal) h w = secM h w := by
  simp only [k0_pay9, secM, shapeCast_self]

theorem e16 : k0_pay16 (F := Ideal) h w = secM h w := by
  simp only [k0_pay16, secM, shapeCast_self]

theorem e18 : k0_pay18 (F := Ideal) h w = secM h w := by
  simp only [k0_pay18, secM, shapeCast_self]

theorem e19 : k0_pay19 (F := Ideal) h w = secM h w := by
  simp only [k0_pay19, secM, shapeCast_self]

theorem e25 : k0_pay25 (F := Ideal) h w = secM h w := by
  simp only [k0_pay25, secM, shapeCast_self]

theorem e28 : k0_pay28 (F := Ideal) h w = secM h w := by
  simp only [k0_pay28, secM, shapeCast_self]

theorem e29 : k0_pay29 (F := Ideal) h w = secM h w := by
  simp only [k0_pay29, secM, shapeCast_self]

theorem e37 : k0_pay37 (F := Ideal) h w = secM h w := by
  simp only [k0_pay37, secM, shapeCast_self]

theorem e39 : k0_pay39 (F := Ideal) h w = secM h w := by
  simp only [k0_pay39, secM, shapeCast_self]

theorem e40 : k0_pay40 (F := Ideal) p = p := by
  simp only [k0_pay40, shapeCast_self]

theorem e4 : k0_pay4 (F := Ideal) (k0_pay3 (F := Ideal) h w) = gaM (secM h w) := by
  simp only [k0_pay4, k0_pay3, shapeCast_self]
  rfl

theorem e13 : k0_pay13 (F := Ideal) h w = gaM (secM h w) := by
  simp only [k0_pay13, shapeCast_self]
  rfl

theorem e23 : k0_pay23 (F := Ideal) (k0_pay21 (F := Ideal) h w) (k0_pay22 (F := Ideal) h w) = gaM (secM h w) := by
  simp only [k0_pay21, k0_pay22, k0_pay23, shapeCast_self]
  rfl

theorem e35 : k0_pay35 (F := Ideal) h w = gaM (secM h w) := by
  simp only [k0_pay35, shapeCast_self]
  rfl

theorem e7 : k0_pay7 (F := Ideal) u v = k0_pay5 (F := Ideal) u v := by
  rfl

theorem e17 : k0_pay17 (F := Ideal) u v = k0_pay5 (F := Ideal) u v := by
  rfl

theorem e24 : k0_pay24 (F := Ideal) u v = k0_pay5 (F := Ideal) u v := by
  rfl

theorem e36 : k0_pay36 (F := Ideal) u v = k0_pay5 (F := Ideal) u v := by
  rfl

theorem e38 : k0_pay38 (F := Ideal) u v = k0_pay5 (F := Ideal) u v := by
  rfl

theorem e14 : k0_pay15 (F := Ideal) (k0_pay14 (F := Ideal) u v) = k0_pay5 (F := Ideal) u v := by
  rfl

theorem e26 : k0_pay27 (F := Ideal) (k0_pay26 (F := Ideal) u) v = k0_pay5 (F := Ideal) u v := by
  rfl

theorem e20 : k0_pay20 (F := Ideal) p o g = k0_pay12 (F := Ideal) p (k0_pay10 (F := Ideal) o) (k0_pay11 (F := Ideal) g) := by
  rfl

theorem e34 : k0_pay34 (F := Ideal) p (k0_pay31 (F := Ideal) o) (k0_pay32 (F := Ideal) o) (k0_pay33 (F := Ideal) o) g
    = k0_pay12 (F := Ideal) p (k0_pay10 (F := Ideal) o) (k0_pay11 (F := Ideal) g) := by
  rfl

theorem e42 : k0_pay42 (F := Ideal) (k0_pay41 (F := Ideal) h w o g)
    = k0_pay12 (F := Ideal) (secM h w) (k0_pay10 (F := Ideal) o) (k0_pay11 (F := Ideal) g) := by
  simp only [k0_pay42, k0_pay41, k0_pay12, k0_pay10, k0_pay11, secM, shapeCast_self]

theorem e46 : k0_pay46 (F := Ideal) (k0_pay44 (F := Ideal) ya w) (k0_pay45 (F := Ideal) yb wb) p q
    = k0_pay43 (F := Ideal) ya w yb wb p q := by
  rfl

theorem e47 : k0_pay47 (F := Ideal) ya w yb wb p q = k0_pay43 (F := Ideal) ya w yb wb p q := by
  rfl

theorem e49 : k0_pay49 (F := Ideal) ya (k0_pay48 (F := Ideal) w) yb wb p q = k0_pay43 (F := Ideal) ya w yb wb p q := by
  rfl

end pays

/-- 128 columns of branch A: the states from column `o` on, times columns of the gelu from column `s` of the block at `p` on. -/
def yaV (h : FVec Ideal S512x1024 .bf16) (wi : Vec Ideal S1024x8192 .bf16) (hs : Vec Ideal S1x512x1024 .f32) (o p s : ℕ)
    (ho : o + 128 ≤ 1024) (hp : p + 256 ≤ 8192) (h128 : s + 128 ≤ 256) : FVec Ideal S512x128 .bf16 :=
  k0_pay5 (F := Ideal) (View.ld hs (Rect.unit (s := S1x512x1024) ![0, 0, o] ![1, 512, 128] (hs_inb o ho)))
    (halfV s h128 (gaM (secV h wi p hp)))

/-- 256 columns of branch B. -/
def ybV (h : FVec Ideal S512x1024 .bf16) (wi : Vec Ideal S1024x8192 .bf16) (hg : Vec Ideal S1x1024 .f32) (ob : Vec Ideal S1x512x1024 .f32)
    (o p : ℕ) (ho : o + 256 ≤ 1024) (hp : p + 256 ≤ 8192) : FVec Ideal S512x256 .bf16 :=
  k0_pay12 (F := Ideal) (secV h wi p hp)
    (k0_pay10 (F := Ideal) (View.ld ob (Rect.unit (s := S1x512x1024) ![0, 0, o] ![1, 512, 256] (ob_inb o ho))))
    (k0_pay11 (F := Ideal) (View.ld hg (Rect.unit (s := S1x1024) ![0, o] ![1, 256] (hg_inb o ho))))

/-- 256 columns of the two branches' projections, merged by their gates. -/
def mixV (h : FVec Ideal S512x1024 .bf16) (wi : Vec Ideal S1024x8192 .bf16) (wa wb : Vec Ideal S1024x1024 .bf16)
    (ya yb : Vec Ideal S512x1024 .bf16) (o p q : ℕ) (ho : o + 256 ≤ 1024) (hp : p + 256 ≤ 8192) (hq : q + 256 ≤ 8192) :
    FVec Ideal S512x256 .bf16 :=
  k0_pay43 (F := Ideal) ya (View.ld wa (Rect.unit (s := S1024x1024) ![0, o] ![1024, 256] (wb_inb o ho)))
    yb (View.ld wb (Rect.unit (s := S1024x1024) ![0, o] ![1024, 256] (wb_inb o ho)))
    (secV h wi p hp) (secV h wi q hq)

/-- Branch A, all 1024 columns. -/
def yaW (h : FVec Ideal S512x1024 .bf16) (wi : Vec Ideal S1024x8192 .bf16) (hs : Vec Ideal S1x512x1024 .f32) : Vec Ideal S512x1024 .bf16 :=
  glue8 ![yaV h wi hs 0 1024 0 (by decide) (by decide) (by decide),
    yaV h wi hs 128 1024 128 (by decide) (by decide) (by decide),
    yaV h wi hs 256 1280 0 (by decide) (by decide) (by decide),
    yaV h wi hs 384 1280 128 (by decide) (by decide) (by decide),
    yaV h wi hs 512 1536 0 (by decide) (by decide) (by decide),
    yaV h wi hs 640 1536 128 (by decide) (by decide) (by decide),
    yaV h wi hs 768 1792 0 (by decide) (by decide) (by decide),
    yaV h wi hs 896 1792 128 (by decide) (by decide) (by decide)]

/-- Branch B, all 1024 columns. -/
def ybW (h : FVec Ideal S512x1024 .bf16) (wi : Vec Ideal S1024x8192 .bf16) (hg : Vec Ideal S1x1024 .f32) (ob : Vec Ideal S1x512x1024 .f32) :
    Vec Ideal S512x1024 .bf16 :=
  glue4 ![ybV h wi hg ob 0 5120 (by decide) (by decide),
    ybV h wi hg ob 256 5376 (by decide) (by decide),
    ybV h wi hg ob 512 5632 (by decide) (by decide),
    ybV h wi hg ob 768 5888 (by decide) (by decide)]

/-- The merged rows, all 1024 columns. -/
def mixW (h : FVec Ideal S512x1024 .bf16) (wi : Vec Ideal S1024x8192 .bf16) (wa wb : Vec Ideal S1024x1024 .bf16)
    (ya yb : Vec Ideal S512x1024 .bf16) : Vec Ideal S512x1024 .bf16 :=
  glue4 ![mixV h wi wa wb ya yb 0 6144 7168 (by decide) (by decide) (by decide),
    mixV h wi wa wb ya yb 256 6400 7424 (by decide) (by decide) (by decide),
    mixV h wi wa wb ya yb 512 6656 7680 (by decide) (by decide) (by decide),
    mixV h wi wa wb ya yb 768 6912 7936 (by decide) (by decide) (by decide)]

/-- The block of 512 rows a grid point stores. -/
def outV (x : Vec Ideal S1x512x1024 .f32) (g : Vec Ideal S1x1024 .f32) (wi : Vec Ideal S1024x8192 .bf16) (hg : Vec Ideal S1x1024 .f32)
    (wa wb wo : Vec Ideal S1024x1024 .bf16) (gp : Vec Ideal S1x1024 .f32) (hs ob : Vec Ideal S1x512x1024 .f32) : Vec Ideal S1x512x1024 .f32 :=
  k0_pay1 (F := Ideal) (k0_pay50 (F := Ideal) x) (k0_pay51 (F := Ideal) gp)
    (k0_pay52 (F := Ideal) (mixW (k0_pay2 (F := Ideal) x g) wi wa wb (yaW (k0_pay2 (F := Ideal) x g) wi hs)
      (ybW (k0_pay2 (F := Ideal) x g) wi hg ob)) wo)

theorem half_0 : 0 + 128 ≤ 256 := by decide
theorem half_128 : 128 + 128 ≤ 256 := by decide

variable (m : (ℓ : Loc nD τ sig) → Buf (Elt Ideal) ℓ)

set_option maxHeartbeats 3000000 in
set_option backward.isDefEq.respectTransparency false in
theorem out_eq (c : Dev nD) (t : Fin cfg0.N) :
    outsAt0 m c t = outV (iblk m c 0 t) (iblk m c 1 t) (iblk m c 2 t) (iblk m c 3 t) (iblk m c 4 t) (iblk m c 5 t) (iblk m c 6 t)
      (iblk m c 7 t) (iblk m c 8 t) (iblk m c 9 t) := by
  unfold outsAt0
  frame_open
  simp (disch := decide) only [↓ read_glue8, ↓ read_glue4, ↓ read_half (ho := half_0), ↓ read_half (ho := half_128), ↓ View.readCov_skip, ↓
    View.readCov_cons_toLoadRect, ↓ View.readCov_fill]
  frame_out
  simp only [e6, e8, e9, e16, e18, e19, e25, e28, e29, e37, e39, e40, e4, e13, e23, e35, e7, e17, e24, e36, e38, e14, e26, e20, e34, e42,
    e46, e47, e49]
  simp only [outV, mixW, yaW, ybW, mixV, yaV, ybV, secV]

end Cert.Tail
-- ==== Proof.TailSpec.lean ====
module

public import proofs.«01_k».proof.Proof.Spec

@[expose] public section

/-!
# The mixer after its two recurrences, one row

`X` is the row of the input, `HS` the row of the states of the first recurrence, `OB` the row of the outputs of the second.
The layer normalises the row and projects it; branch A is the states times the gelu of a section of the projection, branch B
the outputs, each head of 128 normalised and scaled, times the silu of another section; each branch is projected and gated by
the logistic function of a section of its own; the sum is projected, normalised and added to the row.
-/

set_option maxRecDepth 16384

noncomputable section

namespace Cert.Tail

open Idealize.ShloMosaic Idealize.ShloMosaic.TcCoe Idealize.SL.Sem

/-- The tanh form of gelu of a number. -/
def geluS (p : EReal) : EReal :=
  p * (Ideal.ofBits .f32 0x3F000000#32 * (Ideal.ofBits .f32 0x3F800000#32
    + Ideal.tanh (Ideal.ofBits .f32 0x3F4C422A#32 * (p + Ideal.ofBits .f32 0x3D372713#32 * (p * (p * p))))))

/-- A column of the input projection of the row `h`. -/
def secP (h : Fin 1024 → EReal) (Wi : Fin 1024 → Fin 8192 → EReal) (q : Fin 8192) : EReal := ∑ k : Fin 1024, h k * Wi k q

/-- Branch A at a column. -/
def yaP (h : Fin 1024 → EReal) (Wi : Fin 1024 → Fin 8192 → EReal) (HS : Fin 1024 → EReal) (q : Fin 1024) : EReal :=
  HS q * geluS (secP h Wi ⟨1024 + q.val, by omega⟩)

/-- The outputs of the second recurrence at a column, divided by the root of the mean square of the head's 128 columns. -/
def headP (OB : Fin 1024 → EReal) (q : Fin 1024) : EReal :=
  OB q * Ideal.rsqrt (Ideal.div (∑ k : Fin 128, OB ⟨q.val / 128 * 128 + k.val, by omega⟩ * OB ⟨q.val / 128 * 128 + k.val, by omega⟩)
    (Ideal.ofBits .f32 0x43000000#32) + Ideal.ofBits .f32 0x358637BD#32)

/-- Branch B at a column. -/
def ybP (h : Fin 1024 → EReal) (Wi : Fin 1024 → Fin 8192 → EReal) (Hg OB : Fin 1024 → EReal) (q : Fin 1024) : EReal :=
  headP OB q * Hg q * (secP h Wi ⟨5120 + q.val, by omega⟩ * Ideal.logistic (secP h Wi ⟨5120 + q.val, by omega⟩))

/-- The two branches projected, gated and added. -/
def mixP (h : Fin 1024 → EReal) (Wi : Fin 1024 → Fin 8192 → EReal) (Wa Wb : Fin 1024 → Fin 1024 → EReal) (ya yb : Fin 1024 → EReal)
    (q : Fin 1024) : EReal :=
  Ideal.logistic (secP h Wi ⟨6144 + q.val, by omega⟩) * (∑ f : Fin 1024, ya f * Wa f q)
    + Ideal.logistic (secP h Wi ⟨7168 + q.val, by omega⟩) * (∑ f : Fin 1024, yb f * Wb f q)

/-- The merged row from the normalised one. -/
def rowP (h : Fin 1024 → EReal) (Wi : Fin 1024 → Fin 8192 → EReal) (Hg : Fin 1024 → EReal) (Wa Wb : Fin 1024 → Fin 1024 → EReal)
    (HS OB : Fin 1024 → EReal) (q : Fin 1024) : EReal :=
  mixP h Wi Wa Wb (yaP h Wi HS) (ybP h Wi Hg OB) q

/-- The mixer's result at a column. -/
def outP (X G : Fin 1024 → EReal) (Wi : Fin 1024 → Fin 8192 → EReal) (Hg : Fin 1024 → EReal) (Wa Wb Wo : Fin 1024 → Fin 1024 → EReal)
    (Gp HS OB : Fin 1024 → EReal) (n : Fin 1024) : EReal :=
  X n + Cert.Ffn.normG (fun n => ∑ f : Fin 1024, rowP (Cert.Ffn.normG X G) Wi Hg Wa Wb HS OB f * Wo f n) Gp n

end Cert.Tail
-- ==== Proof.TailScalar.lean ====
module

public import proofs.«01_k».proof.Proof.TailTile
public import proofs.«01_k».proof.Proof.TailSpec

@[expose] public section

/-!
# One grid point's block of the mixer's last part, element by element

The vector functions of `TailTile.lean` read at one row and one column are the row functions of `TailSpec.lean`.
-/

set_option maxRecDepth 16384

noncomputable section

namespace Cert.Tail

open Idealize.ShloMosaic Idealize.ShloMosaic.TcCoe Idealize.SL.Sem
open Cert.Kernel3Ideal Cert.Kernel3Ideal.Gen Cert.Glue

/-- A row of an array of rows, of a slab of rows, a row vector, a matrix. -/
def row2 (h : Vec Ideal S512x1024 .bf16) (r : Fin 512) (k : Fin 1024) : EReal := h (ix2 r k)
def row3 (x : Vec Ideal S1x512x1024 .f32) (r : Fin 512) (k : Fin 1024) : EReal := x (ix3 (0 : Fin 1) r k)
def vec1 (g : Vec Ideal S1x1024 .f32) (k : Fin 1024) : EReal := g (ix2 (0 : Fin 1) k)
def matI (w : Vec Ideal S1024x8192 .bf16) (k : Fin 1024) (q : Fin 8192) : EReal := w (ix2 k q)
def matS (w : Vec Ideal S1024x1024 .bf16) (k q : Fin 1024) : EReal := w (ix2 k q)

theorem glue4_row {V : Type} (P : Fin 4 → (⟨2, ![512, 256]⟩ : Shape).Idx → V) (f : Fin 1024 → V) (r : Fin 512)
    (h : ∀ (k : Fin 4) (n : Fin 256), P k (ix2 r n) = f ⟨256 * k.val + n.val, by omega⟩) (q : Fin 1024) : glue4 P (ix2 r q) = f q :=
  (h ⟨q.val / 256, by omega⟩ ⟨q.val % 256, Nat.mod_lt _ (by decide)⟩).trans
    (congrArg f (Fin.ext (by show 256 * (q.val / 256) + q.val % 256 = q.val; omega)))

theorem glue8_row {V : Type} (P : Fin 8 → (⟨2, ![512, 128]⟩ : Shape).Idx → V) (f : Fin 1024 → V) (r : Fin 512)
    (h : ∀ (k : Fin 8) (n : Fin 128), P k (ix2 r n) = f ⟨128 * k.val + n.val, by omega⟩) (q : Fin 1024) : glue8 P (ix2 r q) = f q :=
  (h ⟨q.val / 128, by omega⟩ ⟨q.val % 128, Nat.mod_lt _ (by decide)⟩).trans
    (congrArg f (Fin.ext (by show 128 * (q.val / 128) + q.val % 128 = q.val; omega)))

theorem secM_apply (h : Vec Ideal S512x1024 .bf16) (w : Vec Ideal S1024x256 .bf16) (r : Fin 512) (n : Fin 256) :
    secM h w (ix2 r n) = ∑ k : Fin 1024, h (ix2 r k) * w (ix2 k n) := by
  unfold secM
  change FVec Ideal S512x1024 .bf16 at h
  change FVec Ideal S1024x256 .bf16 at w
  pointwise []

theorem secV_apply (h : FVec Ideal S512x1024 .bf16) (wi : Vec Ideal S1024x8192 .bf16) (o : ℕ) (ho : o + 256 ≤ 8192) (r : Fin 512)
    (n : Fin 256) : secV h wi o ho (ix2 r n) = secP (row2 h r) (matI wi) ⟨o + n.val, by omega⟩ :=
  (secM_apply h _ r n).trans (Finset.sum_congr rfl fun k _ => congrArg (h _ * ·)
    (View.ld_unit_apply_of (Val := Elt Ideal) (e := .bf16) wi ![0, o] ![1024, 256] (wi_inb o ho) (ix2 k n)
      (ix2 k (⟨o + n.val, by omega⟩ : Fin 8192)) (Fin.forall_fin_two.2 ⟨(Nat.zero_add _).symm, rfl⟩)))

theorem geluV_apply (p : FVec Ideal S512x256 .f32) (r : Fin 512) (n : Fin 256) : geluV p (ix2 r n) = geluS (p (ix2 r n)) := by
  pointwise [geluV, geluS]

theorem gaM_apply (p : FVec Ideal S512x256 .f32) (r : Fin 512) (n : Fin 256) :
    gaM p (ix3 (0 : Fin 1) r n) = geluS (p (ix2 r n)) := by
  rw [← geluV_apply]
  unfold gaM
  generalize geluV p = g
  pointwise []

theorem pay5_apply (u v : Vec Ideal S1x512x128 .f32) (r : Fin 512) (n : Fin 128) :
    k0_pay5 (F := Ideal) u v (ix2 r n) = u (ix3 (0 : Fin 1) r n) * v (ix3 (0 : Fin 1) r n) := by
  pointwise [k0_pay5]

theorem yaV_row (h : FVec Ideal S512x1024 .bf16) (wi : Vec Ideal S1024x8192 .bf16) (hs : Vec Ideal S1x512x1024 .f32) (o p s : ℕ)
    (ho : o + 128 ≤ 1024) (hp : p + 256 ≤ 8192) (h128 : s + 128 ≤ 256) (e : p + s = 1024 + o) (r : Fin 512) (n : Fin 128) :
    yaV h wi hs o p s ho hp h128 (ix2 r n) = yaP (row2 h r) (matI wi) (row3 hs r) ⟨o + n.val, by omega⟩ := by
  refine (pay5_apply _ _ r n).trans (congrArg₂ (· * ·) ?_ ?_)
  · exact View.ld_unit_apply_of (Val := Elt Ideal) (e := .f32) hs ![0, 0, o] ![1, 512, 128] (hs_inb o ho) (ix3 (0 : Fin 1) r n)
      (ix3 (0 : Fin 1) r (⟨o + n.val, by omega⟩ : Fin 1024)) (fun a => match a with
        | ⟨0, _⟩ => rfl
        | ⟨1, _⟩ => (Nat.zero_add _).symm
        | ⟨2, _⟩ => rfl)
  · refine (gaM_apply _ r ⟨s + n.val, by omega⟩).trans (congrArg geluS ((secV_apply h wi p hp r _).trans ?_))
    exact congrArg (secP (row2 h r) (matI wi)) (Fin.ext (by show p + (s + n.val) = 1024 + (o + n.val); omega))

theorem pay10_apply (a : Vec Ideal S1x512x256 .f32) (r : Fin 512) (n : Fin 256) :
    k0_pay10 (F := Ideal) a (ix2 r n) = a (ix3 (0 : Fin 1) r n)
      * Ideal.rsqrt (Ideal.div (∑ k : Fin 128, a (ix3 (0 : Fin 1) r (⟨n.val / 128 * 128 + k.val, by omega⟩ : Fin 256))
          * a (ix3 (0 : Fin 1) r (⟨n.val / 128 * 128 + k.val, by omega⟩ : Fin 256)))
        (Ideal.ofBits .f32 0x43000000#32) + Ideal.ofBits .f32 0x358637BD#32) := by
  pointwise [k0_pay10]
  by_cases hn : n.val < 128
  · rw [dif_pos hn]
    have ei : ∀ k : Fin 128, (⟨n.val / 128 * 128 + k.val, by omega⟩ : Fin 256) = ⟨k.val, by omega⟩ := fun k =>
      Fin.ext (by show n.val / 128 * 128 + k.val = k.val; omega)
    simp only [ei]
  · rw [dif_neg hn]
    have e0 : (⟨128 + (n.val - 128), by omega⟩ : Fin 256) = n := Fin.ext (by show 128 + (n.val - 128) = n.val; omega)
    have ei : ∀ k : Fin 128, (⟨n.val / 128 * 128 + k.val, by omega⟩ : Fin 256) = ⟨128 + k.val, by omega⟩ := fun k =>
      Fin.ext (by show n.val / 128 * 128 + k.val = 128 + k.val; omega)
    simp only [ei, e0]

theorem pay11_apply (g : Vec Ideal S1x256 .f32) (r : Fin 512) (n : Fin 256) :
    k0_pay11 (F := Ideal) g (ix2 r n) = g (ix2 (0 : Fin 1) n) := by
  pointwise [k0_pay11]

theorem pay12_apply (p a b : FVec Ideal S512x256 .f32) (r : Fin 512) (n : Fin 256) :
    k0_pay12 (F := Ideal) p a b (ix2 r n) = a (ix2 r n) * b (ix2 r n) * (p (ix2 r n) * Ideal.logistic (p (ix2 r n))) := by
  pointwise [k0_pay12]

theorem ybV_row (h : FVec Ideal S512x1024 .bf16) (wi : Vec Ideal S1024x8192 .bf16) (hg : Vec Ideal S1x1024 .f32)
    (ob : Vec Ideal S1x512x1024 .f32) (k : Fin 4) (o p : ℕ) (eo : o = 256 * k.val) (ep : p = 5120 + 256 * k.val)
    (ho : o + 256 ≤ 1024) (hp : p + 256 ≤ 8192) (r : Fin 512) (n : Fin 256) :
    ybV h wi hg ob o p ho hp (ix2 r n) = ybP (row2 h r) (matI wi) (vec1 hg) (row3 ob r) ⟨256 * k.val + n.val, by omega⟩ := by
  subst eo ep
  have eb : ∀ n : Fin 256, View.ld (Val := Elt Ideal) (e' := .f32) ob (Rect.unit (s := S1x512x1024) ![0, 0, 256 * k.val] ![1, 512, 256] (ob_inb _ ho))
      (ix3 (0 : Fin 1) r n) = row3 ob r ⟨256 * k.val + n.val, by omega⟩ := fun n =>
    View.ld_unit_apply_of (Val := Elt Ideal) (e := .f32) ob ![0, 0, 256 * k.val] ![1, 512, 256] (ob_inb _ ho) (ix3 (0 : Fin 1) r n)
      (ix3 (0 : Fin 1) r (⟨256 * k.val + n.val, by omega⟩ : Fin 1024)) (fun a => match a with
        | ⟨0, _⟩ => rfl
        | ⟨1, _⟩ => (Nat.zero_add _).symm
        | ⟨2, _⟩ => rfl)
  have es : secV h wi (5120 + 256 * k.val) hp (ix2 r n) = secP (row2 h r) (matI wi) ⟨5120 + (256 * k.val + n.val), by omega⟩ :=
    (secV_apply h wi _ hp r n).trans (congrArg (secP (row2 h r) (matI wi)) (Fin.ext (Nat.add_assoc _ _ _)))
  refine (pay12_apply _ _ _ r n).trans (congrArg₂ (· * ·) (congrArg₂ (· * ·) ?_ ?_) (congrArg (fun z => z * Ideal.logistic z) es))
  · refine (pay10_apply _ r n).trans ?_
    unfold headP
    simp only [eb]
    have ei : ∀ j : Fin 128, (⟨256 * k.val + (n.val / 128 * 128 + j.val), by omega⟩ : Fin 1024)
        = ⟨(256 * k.val + n.val) / 128 * 128 + j.val, by omega⟩ := fun j => Fin.ext (by
      show 256 * k.val + (n.val / 128 * 128 + j.val) = (256 * k.val + n.val) / 128 * 128 + j.val; omega)
    simp only [ei]
  · refine (pay11_apply _ r n).trans ?_
    exact View.ld_unit_apply_of (Val := Elt Ideal) (e := .f32) hg ![0, 256 * k.val] ![1, 256] (hg_inb _ ho) (ix2 (0 : Fin 1) n)
      (ix2 (0 : Fin 1) (⟨256 * k.val + n.val, by omega⟩ : Fin 1024)) (Fin.forall_fin_two.2 ⟨rfl, rfl⟩)

theorem pay43_apply (ya yb : Vec Ideal S512x1024 .bf16) (wa wb : Vec Ideal S1024x256 .bf16) (p q : Vec Ideal S512x256 .f32)
    (r : Fin 512) (n : Fin 256) :
    k0_pay43 (F := Ideal) ya wa yb wb p q (ix2 r n)
      = Ideal.logistic (p (ix2 r n)) * (∑ k : Fin 1024, ya (ix2 r k) * wa (ix2 k n))
        + Ideal.logistic (q (ix2 r n)) * (∑ k : Fin 1024, yb (ix2 r k) * wb (ix2 k n)) := by
  unfold k0_pay43
  change FVec Ideal S512x1024 .bf16 at ya yb
  change FVec Ideal S1024x256 .bf16 at wa wb
  change FVec Ideal S512x256 .f32 at p q
  pointwise []

theorem mixV_row (h : FVec Ideal S512x1024 .bf16) (wi : Vec Ideal S1024x8192 .bf16) (wa wb : Vec Ideal S1024x1024 .bf16)
    (ya yb : Vec Ideal S512x1024 .bf16) (k : Fin 4) (o p q : ℕ) (eo : o = 256 * k.val) (ep : p = 6144 + 256 * k.val)
    (eq : q = 7168 + 256 * k.val) (ho : o + 256 ≤ 1024) (hp : p + 256 ≤ 8192) (hq : q + 256 ≤ 8192) (r : Fin 512) (n : Fin 256) :
    mixV h wi wa wb ya yb o p q ho hp hq (ix2 r n)
      = mixP (row2 h r) (matI wi) (matS wa) (matS wb) (row2 ya r) (row2 yb r) ⟨256 * k.val + n.val, by omega⟩ := by
  subst eo ep eq
  have ew : ∀ (w : Vec Ideal S1024x1024 .bf16) (j : Fin 1024),
      View.ld (Val := Elt Ideal) (e' := .bf16) w (Rect.unit (s := S1024x1024) ![0, 256 * k.val] ![1024, 256] (wb_inb _ ho)) (ix2 j n)
        = matS w j ⟨256 * k.val + n.val, by omega⟩ := fun w j =>
    View.ld_unit_apply_of (Val := Elt Ideal) (e := .bf16) w ![0, 256 * k.val] ![1024, 256] (wb_inb _ ho) (ix2 j n)
      (ix2 j (⟨256 * k.val + n.val, by omega⟩ : Fin 1024)) (Fin.forall_fin_two.2 ⟨(Nat.zero_add _).symm, rfl⟩)
  refine (pay43_apply _ _ _ _ _ _ r n).trans (congrArg₂ (· + ·)
    (congrArg₂ (· * ·) (congrArg Ideal.logistic ?_) (Finset.sum_congr rfl fun j _ => congrArg (ya _ * ·) (ew wa j)))
    (congrArg₂ (· * ·) (congrArg Ideal.logistic ?_) (Finset.sum_congr rfl fun j _ => congrArg (yb _ * ·) (ew wb j))))
  · exact (secV_apply h wi _ hp r n).trans (congrArg (secP (row2 h r) (matI wi)) (Fin.ext (Nat.add_assoc _ _ _)))
  · exact (secV_apply h wi _ hq r n).trans (congrArg (secP (row2 h r) (matI wi)) (Fin.ext (Nat.add_assoc _ _ _)))

theorem yaW_row (h : FVec Ideal S512x1024 .bf16) (wi : Vec Ideal S1024x8192 .bf16) (hs : Vec Ideal S1x512x1024 .f32) (r : Fin 512) :
    row2 (yaW h wi hs) r = yaP (row2 h r) (matI wi) (row3 hs r) := funext fun q =>
  glue8_row _ _ r (fun k n => match k with
    | ⟨0, _⟩ => yaV_row h wi hs 0 1024 0 (by decide) (by decide) (by decide) rfl r n
    | ⟨1, _⟩ => yaV_row h wi hs 128 1024 128 (by decide) (by decide) (by decide) rfl r n
    | ⟨2, _⟩ => yaV_row h wi hs 256 1280 0 (by decide) (by decide) (by decide) rfl r n
    | ⟨3, _⟩ => yaV_row h wi hs 384 1280 128 (by decide) (by decide) (by decide) rfl r n
    | ⟨4, _⟩ => yaV_row h wi hs 512 1536 0 (by decide) (by decide) (by decide) rfl r n
    | ⟨5, _⟩ => yaV_row h wi hs 640 1536 128 (by decide) (by decide) (by decide) rfl r n
    | ⟨6, _⟩ => yaV_row h wi hs 768 1792 0 (by decide) (by decide) (by decide) rfl r n
    | ⟨7, _⟩ => yaV_row h wi hs 896 1792 128 (by decide) (by decide) (by decide) rfl r n) q

theorem ybW_row (h : FVec Ideal S512x1024 .bf16) (wi : Vec Ideal S1024x8192 .bf16) (hg : Vec Ideal S1x1024 .f32)
    (ob : Vec Ideal S1x512x1024 .f32) (r : Fin 512) :
    row2 (ybW h wi hg ob) r = ybP (row2 h r) (matI wi) (vec1 hg) (row3 ob r) := funext fun q =>
  glue4_row _ _ r (fun k n => match k with
    | ⟨0, _⟩ => ybV_row h wi hg ob 0 0 5120 rfl rfl (by decide) (by decide) r n
    | ⟨1, _⟩ => ybV_row h wi hg ob 1 256 5376 rfl rfl (by decide) (by decide) r n
    | ⟨2, _⟩ => ybV_row h wi hg ob 2 512 5632 rfl rfl (by decide) (by decide) r n
    | ⟨3, _⟩ => ybV_row h wi hg ob 3 768 5888 rfl rfl (by decide) (by decide) r n) q

theorem mixW_row (h : FVec Ideal S512x1024 .bf16) (wi : Vec Ideal S1024x8192 .bf16) (wa wb : Vec Ideal S1024x1024 .bf16)
    (ya yb : Vec Ideal S512x1024 .bf16) (r : Fin 512) :
    row2 (mixW h wi wa wb ya yb) r = mixP (row2 h r) (matI wi) (matS wa) (matS wb) (row2 ya r) (row2 yb r) := funext fun q =>
  glue4_row _ _ r (fun k n => match k with
    | ⟨0, _⟩ => mixV_row h wi wa wb ya yb 0 0 6144 7168 rfl rfl rfl (by decide) (by decide) (by decide) r n
    | ⟨1, _⟩ => mixV_row h wi wa wb ya yb 1 256 6400 7424 rfl rfl rfl (by decide) (by decide) (by decide) r n
    | ⟨2, _⟩ => mixV_row h wi wa wb ya yb 2 512 6656 7680 rfl rfl rfl (by decide) (by decide) (by decide) r n
    | ⟨3, _⟩ => mixV_row h wi wa wb ya yb 3 768 6912 7936 rfl rfl rfl (by decide) (by decide) (by decide) r n) q

theorem pay2_row (x : Vec Ideal S1x512x1024 .f32) (g : Vec Ideal S1x1024 .f32) (r : Fin 512) :
    row2 (k0_pay2 (F := Ideal) x g) r = Cert.Ffn.normG (row3 x r) (vec1 g) := by
  funext k
  unfold row2
  pointwise [k0_pay2, Cert.Ffn.normG, row3, vec1]

theorem last_apply (x : Vec Ideal S1x512x1024 .f32) (gp : Vec Ideal S1x1024 .f32) (mx : Vec Ideal S512x1024 .bf16)
    (wo : Vec Ideal S1024x1024 .bf16) (r : Fin 512) (n : Fin 1024) :
    k0_pay1 (F := Ideal) (k0_pay50 (F := Ideal) x) (k0_pay51 (F := Ideal) gp) (k0_pay52 (F := Ideal) mx wo) (ix3 (0 : Fin 1) r n)
      = row3 x r n + Cert.Ffn.normG (fun n => ∑ f : Fin 1024, row2 mx r f * matS wo f n) (vec1 gp) n := by
  unfold k0_pay1 k0_pay50 k0_pay51 k0_pay52
  change FVec Ideal S512x1024 .bf16 at mx
  change FVec Ideal S1024x1024 .bf16 at wo
  pointwise [Cert.Ffn.normG, row3, vec1, row2, matS]

theorem outV_row (x : Vec Ideal S1x512x1024 .f32) (g : Vec Ideal S1x1024 .f32) (wi : Vec Ideal S1024x8192 .bf16) (hg : Vec Ideal S1x1024 .f32)
    (wa wb wo : Vec Ideal S1024x1024 .bf16) (gp : Vec Ideal S1x1024 .f32) (hs ob : Vec Ideal S1x512x1024 .f32) (r : Fin 512) (n : Fin 1024) :
    outV x g wi hg wa wb wo gp hs ob (ix3 (0 : Fin 1) r n)
      = outP (row3 x r) (vec1 g) (matI wi) (vec1 hg) (matS wa) (matS wb) (matS wo) (vec1 gp) (row3 hs r) (row3 ob r) n := by
  refine (last_apply x gp _ wo r n).trans ?_
  rw [mixW_row, yaW_row, ybW_row, pay2_row]
  rfl

end Cert.Tail
-- ==== Proof.TailGlob.lean ====
module

public import proofs.«01_k».proof.Proof.TailScalar

@[expose] public section

/-!
# The array the mixer's last part leaves

Each grid point's input blocks read at an element, and the whole result at one.
-/

set_option maxRecDepth 16384

noncomputable section

namespace Cert.Tail

open Idealize.ShloMosaic Idealize.ShloMosaic.TcCoe Idealize.SL.Sem
open Cert.Kernel3Ideal Cert.Kernel3Ideal.Gen Cert.Kernel3Ideal.Value
open Cert.Ffn (rowOf)

variable (m : (ℓ : Loc nD τ sig) → Buf (Elt Ideal) ℓ)

/-- The batch of grid point `t`. -/
def bOf (t : Fin cfg0.N) : Fin 2 := ⟨t.val / 16, by have := lt_of_lt_of_eq t.isLt (show cfg0.N = 32 from N_0); omega⟩
/-- The time tile of grid point `t`. -/
def tOf (t : Fin cfg0.N) : Fin 16 := ⟨t.val % 16, Nat.mod_lt _ (by decide)⟩

theorem idxt : ∀ t : Fin cfg0.N, win0_0.index t = ![t.val / 16, t.val % 16, 0] ∧ win0_8.index t = ![t.val / 16, t.val % 16, 0]
    ∧ win0_9.index t = ![t.val / 16, t.val % 16, 0] ∧ win0_10.index t = ![t.val / 16, t.val % 16, 0] :=
  (by decide +kernel : ∀ t : Fin grid0.N, win0_0.index t = ![t.val / 16, t.val % 16, 0] ∧ win0_8.index t = ![t.val / 16, t.val % 16, 0]
    ∧ win0_9.index t = ![t.val / 16, t.val % 16, 0] ∧ win0_10.index t = ![t.val / 16, t.val % 16, 0])
theorem idxc : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0])

theorem blk0 (c : Dev nD) (t : Fin cfg0.N) (r : Fin 512) (k : Fin 1024) :
    iblk m c 0 t (ix3 (0 : Fin 1) r k) = m ((c : Thread nD τ).loc main_arg0) (ix3 (bOf t) (rowOf (tOf t) r) k) := by
  blk_point [iblk, V, (idxt t).1, bOf, tOf, rowOf, V_main_arg0 m c]
theorem blk8 (c : Dev nD) (t : Fin cfg0.N) (r : Fin 512) (k : Fin 1024) :
    iblk m c 8 t (ix3 (0 : Fin 1) r k) = m ((c : Thread nD τ).loc main_arg1) (ix3 (bOf t) (rowOf (tOf t) r) k) := by
  blk_point [iblk, V, (idxt t).2.1, bOf, tOf, rowOf, V_main_arg1 m c]
theorem blk9 (c : Dev nD) (t : Fin cfg0.N) (r : Fin 512) (k : Fin 1024) :
    iblk m c 9 t (ix3 (0 : Fin 1) r k) = m ((c : Thread nD τ).loc main_arg2) (ix3 (bOf t) (rowOf (tOf t) r) k) := by
  blk_point [iblk, V, (idxt t).2.2.1, bOf, tOf, rowOf, V_main_arg2 m c]
theorem blk1 (c : Dev nD) (t : Fin cfg0.N) (k : Fin 1024) :
    iblk m c 1 t (ix2 (0 : Fin 1) k) = m ((c : Thread nD τ).loc main_arg3) (ix2 (0 : Fin 1) k) := by
  blk_point [iblk, V, idxc t]
theorem blk2 (c : Dev nD) (t : Fin cfg0.N) (k : Fin 1024) (q : Fin 8192) :
    iblk m c 2 t (ix2 k q) = m ((c : Thread nD τ).loc main_arg4) (ix3 (0 : Fin 1) k q) := by
  blk_point [iblk, V, idxc t]
theorem blk3 (c : Dev nD) (t : Fin cfg0.N) (k : Fin 1024) :
    iblk m c 3 t (ix2 (0 : Fin 1) k) = m ((c : Thread nD τ).loc main_arg5) (ix2 (0 : Fin 1) k) := by
  blk_point [iblk, V, idxc t]
theorem blk4 (c : Dev nD) (t : Fin cfg0.N) (k q : Fin 1024) :
    iblk m c 4 t (ix2 k q) = m ((c : Thread nD τ).loc main_arg6) (ix3 (0 : Fin 1) k q) := by
  blk_point [iblk, V, idxc t]
theorem blk5 (c : Dev nD) (t : Fin cfg0.N) (k q : Fin 1024) :
    iblk m c 5 t (ix2 k q) = m ((c : Thread nD τ).loc main_arg7) (ix3 (0 : Fin 1) k q) := by
  blk_point [iblk, V, idxc t]
theorem blk6 (c : Dev nD) (t : Fin cfg0.N) (k q : Fin 1024) :
    iblk m c 6 t (ix2 k q) = m ((c : Thread nD τ).loc main_arg8) (ix3 (0 : Fin 1) k q) := by
  blk_point [iblk, V, idxc t]
theorem blk7 (c : Dev nD) (t : Fin cfg0.N) (k : Fin 1024) :
    iblk m c 7 t (ix2 (0 : Fin 1) k) = m ((c : Thread nD τ).loc main_arg9) (ix2 (0 : Fin 1) k) := by
  blk_point [iblk, V, idxc t]

/-- The result from what the program is given. -/
def outM (c : Dev nD) (b : Fin 2) (s : Fin 8192) (n : Fin 1024) : EReal :=
  outP (fun k => m ((c : Thread nD τ).loc main_arg0) (ix3 b s k)) (fun k => m ((c : Thread nD τ).loc main_arg3) (ix2 (0 : Fin 1) k))
    (fun k q => m ((c : Thread nD τ).loc main_arg4) (ix3 (0 : Fin 1) k q)) (fun k => m ((c : Thread nD τ).loc main_arg5) (ix2 (0 : Fin 1) k))
    (fun k q => m ((c : Thread nD τ).loc main_arg6) (ix3 (0 : Fin 1) k q)) (fun k q => m ((c : Thread nD τ).loc main_arg7) (ix3 (0 : Fin 1) k q))
    (fun k q => m ((c : Thread nD τ).loc main_arg8) (ix3 (0 : Fin 1) k q)) (fun k => m ((c : Thread nD τ).loc main_arg9) (ix2 (0 : Fin 1) k))
    (fun k => m ((c : Thread nD τ).loc main_arg1) (ix3 b s k)) (fun k => m ((c : Thread nD τ).loc main_arg2) (ix3 b s k)) n

theorem point_eq (c : Dev nD) (t : Fin cfg0.N) (r : Fin 512) (n : Fin 1024) :
    outsAt0 m c t (ix3 (0 : Fin 1) r n) = outM m c (bOf t) (rowOf (tOf t) r) n := by
  rw [out_eq m c t]
  refine (outV_row _ _ _ _ _ _ _ _ _ _ r n).trans ?_
  have h0 : row3 (iblk m c 0 t) r = _ := funext (blk0 m c t r)
  have h1 : vec1 (iblk m c 1 t) = _ := funext (blk1 m c t)
  have h2 : matI (iblk m c 2 t) = _ := funext fun k => funext (blk2 m c t k)
  have h3 : vec1 (iblk m c 3 t) = _ := funext (blk3 m c t)
  have h4 : matS (iblk m c 4 t) = _ := funext fun k => funext (blk4 m c t k)
  have h5 : matS (iblk m c 5 t) = _ := funext fun k => funext (blk5 m c t k)
  have h6 : matS (iblk m c 6 t) = _ := funext fun k => funext (blk6 m c t k)
  have h7 : vec1 (iblk m c 7 t) = _ := funext (blk7 m c t)
  have h8 : row3 (iblk m c 8 t) r = _ := funext (blk8 m c t r)
  have h9 : row3 (iblk m c 9 t) r = _ := funext (blk9 m c t r)
  rw [h0, h1, h2, h3, h4, h5, h6, h7, h8, h9]
  rfl

theorem result_eq (c : Dev nD) : (dats m 0 c).arrAt 10 cfg0.N = fun i : S2x8192x1024.Idx => outM m c (i 0) (i 1) (i 2) := by
  refine (dats m 0 c).arrAt_eq_of_covers 10 _ (by decide +kernel) fun t hf y => ?_
  blk_simp
  rw [after0_10]
  change S1x512x1024.Idx at y
  have y0 : (y 0).val < 1 := (y 0).isLt
  have ey : y = ix3 (0 : Fin 1) (y 1 : Fin 512) (y 2 : Fin 1024) := funext fun a => match a with
    | ⟨0, _⟩ => Fin.ext (by show (y 0).val = 0; omega)
    | ⟨1, _⟩ => rfl
    | ⟨2, _⟩ => rfl
  have e0 : (win0_10.blk t).view.emb y 0 = bOf t := Fin.ext (by
    blk_simp [(idxt t).2.2.2]
    rfl)
  have e1 : (win0_10.blk t).view.emb y 1 = rowOf (tOf t) (y 1) := Fin.ext (by
    blk_simp [(idxt t).2.2.2]
    rfl)
  have e2 : (win0_10.blk t).view.emb y 2 = (y 2 : Fin 1024) := Fin.ext (by
    blk_simp [(idxt t).2.2.2])
  rw [e0, e1, e2]
  exact (congrArg (outsAt0 m c t) ey).trans (point_eq m c t (y 1) (y 2))

end Cert.Tail
-- ==== Proof.TailRef.lean ====
module

public import proofs.«01_k».proof.Proof.TailSpec
public import proofs.«01_k».proof.Proof.Gen.Reference3Ideal.Read

@[expose] public section

/-!
# The reference of the mixer's last part at one element of the result

Read operation by operation, each at an element, it is the row function of `TailSpec.lean`.  The two differ in the order of the
factors of a cube, in how a logistic is spelt, and in that the reference splits a row into heads.
-/

set_option maxRecDepth 16384

noncomputable section

namespace Cert.Tail.Ref

open Idealize.ShloMosaic Idealize.ShloMosaic.TcCoe Idealize.SL.Sem
open Cert.Reference3Ideal Cert.Reference3Ideal.Gen Cert.Reference3Ideal.Read
open Cert.Ffn (normG)

variable (x0 x1 x2 : (⟨S2x8192x1024, .f32⟩ : BufTy).Contents (Elt Ideal)) (x3 : (⟨S1x1024, .f32⟩ : BufTy).Contents (Elt Ideal))
  (x4 : (⟨S1x1024x8192, .f32⟩ : BufTy).Contents (Elt Ideal)) (x5 : (⟨S1x1024, .f32⟩ : BufTy).Contents (Elt Ideal))
  (x6 x7 x8 : (⟨S1x1024x1024, .f32⟩ : BufTy).Contents (Elt Ideal)) (x9 : (⟨S1x1024, .f32⟩ : BufTy).Contents (Elt Ideal))

/-- The arguments as functions of their coordinates. -/
def rX (b : Fin 2) (s : Fin 8192) (k : Fin 1024) : EReal := x0 (ix3 b s k)
def rG (k : Fin 1024) : EReal := x3 (ix2 (0 : Fin 1) k)
def rWi (k : Fin 1024) (q : Fin 8192) : EReal := x4 (ix3 (0 : Fin 1) k q)
def rW (k : Fin 1024) (q : Fin 1024) : EReal := x6 (ix3 (0 : Fin 1) k q)

theorem norm_eq (b : Fin 2) (s : Fin 8192) (k : Fin 1024) :
    val_main_v13 (F := Ideal) x0 x3 (ix3 b s k) = normG (rX x0 b s) (rG x3) k := by
  unfold val_main_v13 val_main_v10 val_main_v9 val_main_v8 val_main_v7 val_main_v5 val_main_v3 val_main_v2 val_main_v1
    val_main_v12 val_main_v11 val_main_v0 val_main_v4 val_main_v6 val_main_cst val_main_cst_0 val_main_cst_1
  pointwise [normG, rX, rG]

theorem sec_eq (b : Fin 2) (s : Fin 8192) (q : Fin 8192) :
    val_main_v15 (F := Ideal) x0 x3 x4 (ix3 b s q) = secP (normG (rX x0 b s) (rG x3)) (rWi x4) q := by
  have e := norm_eq x0 x3
  unfold val_main_v15 val_main_v14
  generalize val_main_v13 (F := Ideal) x0 x3 = h at e ⊢
  pointwise [secP, rWi]
  simp only [e]

theorem ya_eq (b : Fin 2) (s : Fin 8192) (q : Fin 1024) :
    val_main_v37 (F := Ideal) x0 x1 x3 x4 (ix3 b s q) = yaP (normG (rX x0 b s) (rG x3)) (rWi x4) (rX x1 b s) q := by
  have e := sec_eq x0 x3 x4
  unfold val_main_v37 val_main_v36 val_main_v35 val_main_v34 val_main_v33 val_main_v32 val_main_v31 val_main_v30 val_main_v29
    val_main_v28 val_main_v27 val_main_v26 val_main_v25 val_main_v24 val_main_v17 val_main_cst_2 val_main_cst_3 val_main_cst_4 val_main_cst_5
  generalize val_main_v15 (F := Ideal) x0 x3 x4 = u at e ⊢
  pointwise [yaP, geluS, rX]
  simp only [e, mul_assoc]

theorem head_eq (b : Fin 2) (s : Fin 8192) (q : Fin 1024) :
    val_main_v54 (F := Ideal) x2 x5 (ix3 b s q) = headP (rX x2 b s) q * rG x5 q := by
  unfold val_main_v54 val_main_v53 val_main_v52 val_main_v51 val_main_v50 val_main_v49 val_main_v48 val_main_v47 val_main_v46
    val_main_v45 val_main_v44 val_main_v43 val_main_v42 val_main_v41 val_main_v40 val_main_v39 val_main_v38 val_main_cst_6
    val_main_cst_7 val_main_cst_8
  pointwise [headP, rX, rG]

theorem one_eq : Ideal.ofBits .f32 0x3F800000#32 = (1 : EReal) := by
  pointwise []

theorem yb_eq (b : Fin 2) (s : Fin 8192) (q : Fin 1024) :
    val_main_v56 (F := Ideal) x0 x2 x3 x4 x5 (ix3 b s q) = ybP (normG (rX x0 b s) (rG x3)) (rWi x4) (rG x5) (rX x2 b s) q := by
  have e := sec_eq x0 x3 x4
  have e' := head_eq x2 x5
  unfold val_main_v56 val_main_v55 val_main_call0_v5 val_main_call0_v4 val_main_call0_cst_0 val_main_call0_v3 val_main_call0_v2
    val_main_call0_cst val_main_call0_v1 val_main_call0_v0 val_main_v21
  generalize val_main_v15 (F := Ideal) x0 x3 x4 = u at e ⊢
  generalize val_main_v54 (F := Ideal) x2 x5 = w at e' ⊢
  pointwise [ybP, Ideal.logistic]
  simp only [e, e', one_eq]

theorem mix_eq (b : Fin 2) (s : Fin 8192) (q : Fin 1024) :
    val_main_v75 (F := Ideal) x0 x1 x2 x3 x4 x5 x6 x7 (ix3 b s q)
      = rowP (normG (rX x0 b s) (rG x3)) (rWi x4) (rG x5) (rW x6) (rW x7) (rX x1 b s) (rX x2 b s) q := by
  have e := sec_eq x0 x3 x4
  have ea := ya_eq x0 x1 x3 x4
  have eb := yb_eq x0 x2 x3 x4 x5
  unfold val_main_v75 val_main_v74 val_main_v73 val_main_v72 val_main_v71 val_main_v70 val_main_v69 val_main_v68 val_main_v67
    val_main_v66 val_main_v65 val_main_v64 val_main_v63 val_main_v62 val_main_v61 val_main_v60 val_main_v59 val_main_v58 val_main_v57
    val_main_v22 val_main_v23 val_main_cst_9 val_main_cst_10 val_main_cst_11 val_main_cst_12
  generalize val_main_v15 (F := Ideal) x0 x3 x4 = u at e ⊢
  generalize val_main_v37 (F := Ideal) x0 x1 x3 x4 = ya at ea ⊢
  generalize val_main_v56 (F := Ideal) x0 x2 x3 x4 x5 = yb at eb ⊢
  pointwise [rowP, mixP, Ideal.logistic, rW]
  simp only [e, ea, eb, one_eq]

theorem proj_eq (b : Fin 2) (s : Fin 8192) (n : Fin 1024) :
    val_main_v77 (F := Ideal) x0 x1 x2 x3 x4 x5 x6 x7 x8 (ix3 b s n)
      = ∑ f : Fin 1024, rowP (normG (rX x0 b s) (rG x3)) (rWi x4) (rG x5) (rW x6) (rW x7) (rX x1 b s) (rX x2 b s) f * rW x8 f n := by
  have e := mix_eq x0 x1 x2 x3 x4 x5 x6 x7
  unfold val_main_v77 val_main_v76
  generalize val_main_v75 (F := Ideal) x0 x1 x2 x3 x4 x5 x6 x7 = u at e ⊢
  pointwise [rW]
  simp only [e]

theorem out_eq (b : Fin 2) (s : Fin 8192) (n : Fin 1024) :
    val_main_v92 (F := Ideal) x0 x1 x2 x3 x4 x5 x6 x7 x8 x9 (ix3 b s n)
      = outP (rX x0 b s) (rG x3) (rWi x4) (rG x5) (rW x6) (rW x7) (rW x8) (rG x9) (rX x1 b s) (rX x2 b s) n := by
  have e := proj_eq x0 x1 x2 x3 x4 x5 x6 x7 x8
  unfold val_main_v92 val_main_v91 val_main_v90 val_main_v89 val_main_v88 val_main_v87 val_main_v86 val_main_v85 val_main_v84
    val_main_v83 val_main_v82 val_main_v81 val_main_v80 val_main_v79 val_main_v78 val_main_cst_13 val_main_cst_14 val_main_cst_15
  generalize val_main_v77 (F := Ideal) x0 x1 x2 x3 x4 x5 x6 x7 x8 = u at e ⊢
  unfold outP
  generalize hf : (fun n => ∑ f : Fin 1024, rowP (normG (rX x0 b s) (rG x3)) (rWi x4) (rG x5) (rW x6) (rW x7) (rX x1 b s) (rX x2 b s) f
    * rW x8 f n) = F
  have e' : ∀ n, u (ix3 b s n) = F n := fun n => (e b s n).trans (congrFun hf n)
  clear e hf
  pointwise [normG, rX, rG]
  simp only [e']

end Cert.Tail.Ref
-- ==== Proof.lean ====
module

public import proofs.«01_k».proof.Defs
public import proofs.«01_k».proof.Proof.Glob
public import proofs.«01_k».proof.Proof.RefSide
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.TailGlob
public import proofs.«01_k».proof.Proof.TailRef
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  refine (Cert.Reference2Ideal.Read.val_main_v76_eq m' c).trans (funext fun i => ?_)
  refine Eq.trans ?_ (Cert.Ffn.result_eq m c i).symm
  obtain ⟨h0, h1, h2, h3, h4, h5, h6⟩ := hagree c
  have e := Cert.Ffn.Ref.out_eq (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2))
    (m' ((c.tc : Thread Cert.Reference2Ideal.nD Cert.Reference2Ideal.τ).loc Cert.Reference2Ideal.main_arg3))
    (m' ((c.tc : Thread Cert.Reference2Ideal.nD Cert.Reference2Ideal.τ).loc Cert.Reference2Ideal.main_arg4))
    (m' ((c.tc : Thread Cert.Reference2Ideal.nD Cert.Reference2Ideal.τ).loc Cert.Reference2Ideal.main_arg5))
    (m' ((c.tc : Thread Cert.Reference2Ideal.nD Cert.Reference2Ideal.τ).loc Cert.Reference2Ideal.main_arg6)) (i 0) (i 1) (i 2)
  have ei : i = ix3 (i 0 : Fin 2) (i 1 : Fin 8192) (i 2 : Fin 1024) := funext fun a => match a with
    | ⟨0, _⟩ => rfl
    | ⟨1, _⟩ => rfl
    | ⟨2, _⟩ => rfl
  refine (congrArg _ ei).trans (e.trans ?_)
  rw [h0, h1, h2, h3, h4, h5, h6]
  rfl

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  refine (Cert.Reference3Ideal.Read.val_main_v92_eq m' c).trans (Eq.trans (funext fun i => ?_) (Cert.Tail.result_eq m c).symm)
  obtain ⟨h0, h1, h2, h3, h4, h5, h6, h7, h8, h9⟩ := hagree c
  have e := Cert.Tail.Ref.out_eq
    (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
    (m' ((c.tc : Thread Cert.Reference3Ideal.nD Cert.Reference3Ideal.τ).loc Cert.Reference3Ideal.main_arg3))
    (m' ((c.tc : Thread Cert.Reference3Ideal.nD Cert.Reference3Ideal.τ).loc Cert.Reference3Ideal.main_arg4))
    (m' ((c.tc : Thread Cert.Reference3Ideal.nD Cert.Reference3Ideal.τ).loc Cert.Reference3Ideal.main_arg5))
    (m' ((c.tc : Thread Cert.Reference3Ideal.nD Cert.Reference3Ideal.τ).loc Cert.Reference3Ideal.main_arg6))
    (m' ((c.tc : Thread Cert.Reference3Ideal.nD Cert.Reference3Ideal.τ).loc Cert.Reference3Ideal.main_arg7))
    (m' ((c.tc : Thread Cert.Reference3Ideal.nD Cert.Reference3Ideal.τ).loc Cert.Reference3Ideal.main_arg8))
    (m' ((c.tc : Thread Cert.Reference3Ideal.nD Cert.Reference3Ideal.τ).loc Cert.Reference3Ideal.main_arg9)) (i 0) (i 1) (i 2)
  have ei : i = ix3 (i 0 : Fin 2) (i 1 : Fin 8192) (i 2 : Fin 1024) := funext fun a => match a with
    | ⟨0, _⟩ => rfl
    | ⟨1, _⟩ => rfl
    | ⟨2, _⟩ => rfl
  refine (congrArg _ ei).trans (e.trans ?_)
  rw [h0, h1, h2, h3, h4, h5, h6, h7, h8, h9]
  rfl

theorem claim : Cert.Claim := ⟨Cert.Kernel.Gen.facts, Cert.KernelIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  fun m ρ _ => Cert.Kernel.Gen.frame m ρ, fun m ρ _ => Cert.KernelIdeal.Gen.frame m ρ,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  (trivial : preserves_Kernel_KernelIdeal), (trivial : preserves_Kernel2_Kernel2Ideal), algebraic_Kernel2Ideal_Reference2Ideal,
  (trivial : preserves_Kernel3_Kernel3Ideal), algebraic_Kernel3Ideal_Reference3Ideal⟩

end Cert.Proof

end
